-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2048, 8, 128]⟩ ⟨3, ![32768, 8, 128]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2048, 8, 128]⟩ ⟨3, ![32768, 8, 128]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1024x1024 : Shape := ⟨2, ![1024, 1024]⟩
abbrev S2048x8x128 : Shape := ⟨3, ![2048, 8, 128]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S2048x8x128 : S_.BroadcastsInDim S2048x8x128 (![] : Fin 0 → Fin S2048x8x128.rank)

variable [Facts]

def fn {F : FTy → Type} [FloatOps F] (main_arg0 : FVec F S2048x1024 .bf16) (main_arg1 : FVec F S1024x1024 .bf16) (main_arg2 : FVec F S2048x8x128 .bf16) (main_arg3 : FVec F S2048x8x128 .bf16) (main_arg4 : FVec F S1024x1024 .bf16) : IVec S2048x1024 1 × IVec S1024x1024 1 × IVec S2048x8x128 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S2048x8x128 .bf16 := Host.absf main_arg2
  let main_cst_1 : FVec F S_ .bf16 := constant S_ .bf16 0x7F80#16
  let main_v7 : FVec F S2048x8x128 .bf16 := broadcastInDim S2048x8x128 ![] bcast_S_S2048x8x128 main_cst_1
  let main_v8 : IVec S2048x8x128 1 := cmpf .olt main_v6 main_v7
  (main_v2, main_v5, main_v8)
-- ==== Pre_finite_ReferenceIdeal.lean ====
abbrev S2048x1024 : Shape := ⟨2, ![2048, 1024]⟩
abbrev S1024x1024 : Shape := ⟨2, ![1024, 1024]⟩
abbrev S32768x8x128 : Shape := ⟨3, ![32768, 8, 128]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S32768x8x128 : S_.BroadcastsInDim S32768x8x128 (![] : Fin 0 → Fin S32768x8x128.rank)

variable [Facts]

def fn {F : FTy → Type} [FloatOps F] (main_arg0 : FVec F S2048x1024 .bf16) (main_arg1 : FVec F S1024x1024 .bf16) (main_arg2 : FVec F S32768x8x128 .bf16) (main_arg3 : FVec F S32768x8x128 .bf16) (main_arg4 : FVec F S1024x1024 .bf16) : IVec S2048x1024 1 × IVec S1024x1024 1 × IVec S32768x8x128 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S32768x8x128 .bf16 := Host.absf main_arg2
  let main_cst_1 : FVec F S_ .bf16 := constant S_ .bf16 0x7F80#16
  let main_v7 : FVec F S32768x8x128 .bf16 := broadcastInDim S32768x8x128 ![] bcast_S_S32768x8x128 main_cst_1
  let main_v8 : IVec S32768x8x128 1 := cmpf .olt main_v6 main_v7
  (main_v2, main_v5, main_v8)
-- ==== Kernel.lean ====
abbrev S2048x1024 : Shape := ⟨2, ![2048, 1024]⟩
abbrev S1024x1024 : Shape := ⟨2, ![1024, 1024]⟩
abbrev S2048x8x128 : Shape := ⟨3, ![2048, 8, 128]⟩
abbrev S2048x16 : Shape := ⟨2, ![2048, 16]⟩
abbrev S128x1024 : Shape := ⟨2, ![128, 1024]⟩
abbrev S15x128x16 : Shape := ⟨3, ![15, 128, 16]⟩
abbrev S15x128x1024 : Shape := ⟨3, ![15, 128, 1024]⟩
abbrev S15 : Shape := ⟨1, ![15]⟩
abbrev S_ : Shape := ⟨0, ![]⟩
abbrev S128x2048 : Shape := ⟨2, ![128, 2048]⟩
abbrev S128x128 : Shape := ⟨2, ![128, 128]⟩
abbrev S2048x1x128 : Shape := ⟨3, ![2048, 1, 128]⟩
abbrev S2048x128 : Shape := ⟨2, ![2048, 128]⟩
abbrev S128 : Shape := ⟨1, ![128]⟩
abbrev S128x1 : Shape := ⟨2, ![128, 1]⟩
abbrev S1 : Shape := ⟨1, ![1]⟩
abbrev S1x128x16 : Shape := ⟨3, ![1, 128, 16]⟩
abbrev S128x16 : Shape := ⟨2, ![128, 16]⟩
abbrev S1x128x1024 : Shape := ⟨3, ![1, 128, 1024]⟩
abbrev S128x8 : Shape := ⟨2, ![128, 8]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x8x128, .bf16⟩
  | .hbm, ⟨3, _⟩ => ⟨S2048x8x128, .bf16⟩
  | .hbm, ⟨4, _⟩ => ⟨S1024x1024, .bf16⟩
  | .hbm, ⟨5, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x8x128, .bf16⟩
  | .local _ .vmem, ⟨3, _⟩ => ⟨S2048x8x128, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .bf16⟩
  | .local _ .vmem, ⟨7, _⟩ => ⟨S2048x16, .f32⟩
  | .local _ .vmem, ⟨8, _⟩ => ⟨S2048x1024, .f32⟩
  | .local _ .vmem, ⟨9, _⟩ => ⟨S128x1024, .bf16⟩
  | .local _ .vmem, ⟨10, _⟩ => ⟨S15x128x16, .f32⟩
  | .local _ .vmem, ⟨11, _⟩ => ⟨S15x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  (ofTc nBuf bufTy 1 96 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_21 : BitVec 32 := 0#32
  let c16_i32_22 : BitVec 32 := 16#32
  let v51 : BitVec 32 := Scalar.addi c0_i32_21 c16_i32_22
  let c1_i32_23 : BitVec 32 := 1#32
  ⟨c0_i32_21, v51, c1_i32_23⟩
def k0_off1 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3750 : Index := Scalar.indexCast v3710
  let c0_1893 : Index := 0#32
  ![v3750.toNat, 0]
def k0_off2 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3769 : Index := Scalar.indexCast v3710
  let c0_1905 : Index := 0#32
  ![v3769.toNat, 0]
def k0_off3 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3773 : Index := Scalar.indexCast v3710
  let c8_1906 : Index := 8#32
  ![v3773.toNat, 8]
def k0_off4 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3781 : Index := Scalar.indexCast v3710
  let c128_1908 : Index := 128#32
  ![v3781.toNat, 128]
def k0_off5 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3800 : Index := Scalar.indexCast v3710
  let c1_1920 : Index := 1#32
  ![v3800.toNat, 1]
def k0_off6 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3804 : Index := Scalar.indexCast v3710
  let c9_1921 : Index := 9#32
  ![v3804.toNat, 9]
def k0_off7 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3812 : Index := Scalar.indexCast v3710
  let c256_1923 : Index := 256#32
  ![v3812.toNat, 256]
def k0_off8 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3831 : Index := Scalar.indexCast v3710
  let c2_1935 : Index := 2#32
  ![v3831.toNat, 2]
def k0_off9 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3835 : Index := Scalar.indexCast v3710
  let c10_1936 : Index := 10#32
  ![v3835.toNat, 10]
def k0_off10 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3843 : Index := Scalar.indexCast v3710
  let c384_1938 : Index := 384#32
  ![v3843.toNat, 384]
def k0_off11 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3862 : Index := Scalar.indexCast v3710
  let c3_1950 : Index := 3#32
  ![v3862.toNat, 3]
def k0_off12 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3866 : Index := Scalar.indexCast v3710
  let c11_1951 : Index := 11#32
  ![v3866.toNat, 11]
def k0_off13 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3874 : Index := Scalar.indexCast v3710
  let c512_1953 : Index := 512#32
  ![v3874.toNat, 512]
def k0_off14 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3893 : Index := Scalar.indexCast v3710
  let c4_1965 : Index := 4#32
  ![v3893.toNat, 4]
def k0_off15 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3897 : Index := Scalar.indexCast v3710
  let c12_1966 : Index := 12#32
  ![v3897.toNat, 12]
def k0_off16 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3905 : Index := Scalar.indexCast v3710
  let c640_1968 : Index := 640#32
  ![v3905.toNat, 640]
def k0_off17 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3924 : Index := Scalar.indexCast v3710
  let c5_1980 : Index := 5#32
  ![v3924.toNat, 5]
def k0_off18 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3928 : Index := Scalar.indexCast v3710
  let c13_1981 : Index := 13#32
  ![v3928.toNat, 13]
def k0_off19 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3936 : Index := Scalar.indexCast v3710
  let c768_1983 : Index := 768#32
  ![v3936.toNat, 768]
def k0_off20 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3955 : Index := Scalar.indexCast v3710
  let c6_1995 : Index := 6#32
  ![v3955.toNat, 6]
def k0_off21 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3959 : Index := Scalar.indexCast v3710
  let c14_1996 : Index := 14#32
  ![v3959.toNat, 14]
def k0_off22 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3967 : Index := Scalar.indexCast v3710
  let c896_1998 : Index := 896#32
  ![v3967.toNat, 896]
def k0_off23 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3986 : Index := Scalar.indexCast v3710
  let c7_2010 : Index := 7#32
  ![v3986.toNat, 7]
def k0_off24 (k0_t1 : Fin k0_t1_loop.trips) : Fin 2 → Nat :=
  let c0_i32_21 : BitVec 32 := 0#32
  let c1_i32_23 : BitVec 32 := 1#32
  let arg18 : BitVec 32 := Scf.iv c0_i32_21 c1_i32_23 k0_t1
  let c128_i32_1880 : BitVec 32 := 128#32
  let v3710 : BitVec 32 := Scalar.muli arg18 c128_i32_1880
  let v3990 : Index := Scalar.indexCast v3710
  let c15 : Index := 15#32
  ![v3990.toNat, 15]
def k0_off25 (d0 : Dev nD) (c0_i32_26 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_25 : BitVec 32 := 16#32
  let v52 : BitVec 32 := Scalar.addi v2 c16_i32_25
  let v53 : BitVec 32 := Scalar.subi v52 c0_i32_26
  let c1_i32_27 : BitVec 32 := 1#32
  let v54 : BitVec 32 := Scalar.subi v53 c1_i32_27
  let c16_i32_28 : BitVec 32 := 16#32
  let v55 : BitVec 32 := Scalar.remsi v54 c16_i32_28
  let c128_i32 : BitVec 32 := 128#32
  let v56 : BitVec 32 := Scalar.muli v55 c128_i32
  let v57 : Index := Scalar.indexCast v56
  let c0_29 : Index := 0#32
  ![v57.toNat, 0]
def k0_off26 (d0 : Dev nD) (c0_i32_26 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_25 : BitVec 32 := 16#32
  let v52 : BitVec 32 := Scalar.addi v2 c16_i32_25
  let v53 : BitVec 32 := Scalar.subi v52 c0_i32_26
  let c1_i32_27 : BitVec 32 := 1#32
  let v54 : BitVec 32 := Scalar.subi v53 c1_i32_27
  let c16_i32_28 : BitVec 32 := 16#32
  let v55 : BitVec 32 := Scalar.remsi v54 c16_i32_28
  let c128_i32 : BitVec 32 := 128#32
  let v56 : BitVec 32 := Scalar.muli v55 c128_i32
  let c0_i32_39 : BitVec 32 := 0#32
  ![v56.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_35 : BitVec 32 := 1#32
  let v63 : BitVec 32 := Scalar.muli v7 c1_i32_35
  let v64 : BitVec 32 := Scalar.addi c0_i32_36 v63
  v64.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_43 : BitVec 32 := 1#32
  let v72 : BitVec 32 := Scalar.muli v7 c1_i32_43
  let v73 : BitVec 32 := Scalar.addi c0_i32_44 v72
  v73.toNat
def k0_off27 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v107 : Index := Scalar.indexCast v106
  let c0_80 : Index := 0#32
  ![v107.toNat, 0]
def k0_off28 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v120 : Index := Scalar.indexCast v106
  let c0_84 : Index := 0#32
  ![v120.toNat, 0]
def k0_off29 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v127 : Index := Scalar.indexCast v106
  let c8 : Index := 8#32
  ![v127.toNat, 8]
def k0_off30 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v131 : Index := Scalar.indexCast v106
  let c0_85 : Index := 0#32
  ![v131.toNat, 0]
def k0_off31 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v148 : Index := Scalar.indexCast v106
  let c128 : Index := 128#32
  ![v148.toNat, 128]
def k0_off32 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v165 : Index := Scalar.indexCast v106
  let c256 : Index := 256#32
  ![v165.toNat, 256]
def k0_off33 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v182 : Index := Scalar.indexCast v106
  let c384 : Index := 384#32
  ![v182.toNat, 384]
def k0_off34 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v199 : Index := Scalar.indexCast v106
  let c512 : Index := 512#32
  ![v199.toNat, 512]
def k0_off35 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v216 : Index := Scalar.indexCast v106
  let c640 : Index := 640#32
  ![v216.toNat, 640]
def k0_off36 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v233 : Index := Scalar.indexCast v106
  let c768 : Index := 768#32
  ![v233.toNat, 768]
def k0_off37 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_75 : BitVec 32 := 32#32
  let v102 : BitVec 32 := Scalar.addi v2 c32_i32_75
  let v103 : BitVec 32 := Scalar.subi v102 c0_i32_76
  let c2_i32_77 : BitVec 32 := 2#32
  let v104 : BitVec 32 := Scalar.subi v103 c2_i32_77
  let c16_i32_78 : BitVec 32 := 16#32
  let v105 : BitVec 32 := Scalar.remsi v104 c16_i32_78
  let c128_i32_79 : BitVec 32 := 128#32
  let v106 : BitVec 32 := Scalar.muli v105 c128_i32_79
  let v250 : Index := Scalar.indexCast v106
  let c896 : Index := 896#32
  ![v250.toNat, 896]
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_129 : BitVec 32 := 1#32
  let v278 : BitVec 32 := Scalar.muli v7 c1_i32_129
  let v279 : BitVec 32 := Scalar.addi c0_i32_130 v278
  v279.toNat
def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_137 : BitVec 32 := 1#32
  let v287 : BitVec 32 := Scalar.muli v7 c1_i32_137
  let v288 : BitVec 32 := Scalar.addi c0_i32_138 v287
  v288.toNat
def k0_dev7 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_230 : BitVec 32 := 1#32
  let v493 : BitVec 32 := Scalar.muli v7 c1_i32_230
  let v494 : BitVec 32 := Scalar.addi c0_i32_231 v493
  v494.toNat
def k0_dev8 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_238 : BitVec 32 := 1#32
  let v502 : BitVec 32 := Scalar.muli v7 c1_i32_238
  let v503 : BitVec 32 := Scalar.addi c0_i32_239 v502
  v503.toNat
def k0_dev9 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_330 : BitVec 32 := 1#32
  let v708 : BitVec 32 := Scalar.muli v7 c1_i32_330
  let v709 : BitVec 32 := Scalar.addi c0_i32_331 v708
  v709.toNat
def k0_dev10 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_338 : BitVec 32 := 1#32
  let v717 : BitVec 32 := Scalar.muli v7 c1_i32_338
  let v718 : BitVec 32 := Scalar.addi c0_i32_339 v717
  v718.toNat
def k0_dev11 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_430 : BitVec 32 := 1#32
  let v923 : BitVec 32 := Scalar.muli v7 c1_i32_430
  let v924 : BitVec 32 := Scalar.addi c0_i32_431 v923
  v924.toNat
def k0_dev12 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_438 : BitVec 32 := 1#32
  let v932 : BitVec 32 := Scalar.muli v7 c1_i32_438
  let v933 : BitVec 32 := Scalar.addi c0_i32_439 v932
  v933.toNat
def k0_dev13 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_530 : BitVec 32 := 1#32
  let v1138 : BitVec 32 := Scalar.muli v7 c1_i32_530
  let v1139 : BitVec 32 := Scalar.addi c0_i32_531 v1138
  v1139.toNat
def k0_dev14 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_538 : BitVec 32 := 1#32
  let v1147 : BitVec 32 := Scalar.muli v7 c1_i32_538
  let v1148 : BitVec 32 := Scalar.addi c0_i32_539 v1147
  v1148.toNat
def k0_dev15 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_630 : BitVec 32 := 1#32
  let v1353 : BitVec 32 := Scalar.muli v7 c1_i32_630
  let v1354 : BitVec 32 := Scalar.addi c0_i32_631 v1353
  v1354.toNat
def k0_dev16 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_638 : BitVec 32 := 1#32
  let v1362 : BitVec 32 := Scalar.muli v7 c1_i32_638
  let v1363 : BitVec 32 := Scalar.addi c0_i32_639 v1362
  v1363.toNat
def k0_dev17 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_730 : BitVec 32 := 1#32
  let v1568 : BitVec 32 := Scalar.muli v7 c1_i32_730
  let v1569 : BitVec 32 := Scalar.addi c0_i32_731 v1568
  v1569.toNat
def k0_dev18 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_738 : BitVec 32 := 1#32
  let v1577 : BitVec 32 := Scalar.muli v7 c1_i32_738
  let v1578 : BitVec 32 := Scalar.addi c0_i32_739 v1577
  v1578.toNat
def k0_dev19 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_830 : BitVec 32 := 1#32
  let v1783 : BitVec 32 := Scalar.muli v7 c1_i32_830
  let v1784 : BitVec 32 := Scalar.addi c0_i32_831 v1783
  v1784.toNat
def k0_dev20 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_838 : BitVec 32 := 1#32
  let v1792 : BitVec 32 := Scalar.muli v7 c1_i32_838
  let v1793 : BitVec 32 := Scalar.addi c0_i32_839 v1792
  v1793.toNat
def k0_dev21 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_931 : BitVec 32 := 1#32
  let v1998 : BitVec 32 := Scalar.muli v7 c1_i32_931
  let v1999 : BitVec 32 := Scalar.addi c0_i32_932 v1998
  v1999.toNat
def k0_dev22 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_939 : BitVec 32 := 1#32
  let v2007 : BitVec 32 := Scalar.muli v7 c1_i32_939
  let v2008 : BitVec 32 := Scalar.addi c0_i32_940 v2007
  v2008.toNat
def k0_dev23 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1031 : BitVec 32 := 1#32
  let v2213 : BitVec 32 := Scalar.muli v7 c1_i32_1031
  let v2214 : BitVec 32 := Scalar.addi c0_i32_1032 v2213
  v2214.toNat
def k0_dev24 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1039 : BitVec 32 := 1#32
  let v2222 : BitVec 32 := Scalar.muli v7 c1_i32_1039
  let v2223 : BitVec 32 := Scalar.addi c0_i32_1040 v2222
  v2223.toNat
def k0_dev25 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1131 : BitVec 32 := 1#32
  let v2428 : BitVec 32 := Scalar.muli v7 c1_i32_1131
  let v2429 : BitVec 32 := Scalar.addi c0_i32_1132 v2428
  v2429.toNat
def k0_dev26 (d0 : Dev nD) : Nat :=
  let c0_i32_1140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1139 : BitVec 32 := 1#32
  let v2437 : BitVec 32 := Scalar.muli v7 c1_i32_1139
  let v2438 : BitVec 32 := Scalar.addi c0_i32_1140 v2437
  v2438.toNat
def k0_dev27 (d0 : Dev nD) : Nat :=
  let c0_i32_1232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1231 : BitVec 32 := 1#32
  let v2643 : BitVec 32 := Scalar.muli v7 c1_i32_1231
  let v2644 : BitVec 32 := Scalar.addi c0_i32_1232 v2643
  v2644.toNat
def k0_dev28 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1239 : BitVec 32 := 1#32
  let v2652 : BitVec 32 := Scalar.muli v7 c1_i32_1239
  let v2653 : BitVec 32 := Scalar.addi c0_i32_1240 v2652
  v2653.toNat
def k0_dev29 (d0 : Dev nD) : Nat :=
  let c0_i32_1332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1331 : BitVec 32 := 1#32
  let v2858 : BitVec 32 := Scalar.muli v7 c1_i32_1331
  let v2859 : BitVec 32 := Scalar.addi c0_i32_1332 v2858
  v2859.toNat
def k0_dev30 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1339 : BitVec 32 := 1#32
  let v2867 : BitVec 32 := Scalar.muli v7 c1_i32_1339
  let v2868 : BitVec 32 := Scalar.addi c0_i32_1340 v2867
  v2868.toNat
def k0_dev31 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1431 : BitVec 32 := 1#32
  let v3073 : BitVec 32 := Scalar.muli v7 c1_i32_1431
  let v3074 : BitVec 32 := Scalar.addi c0_i32_1432 v3073
  v3074.toNat
def k0_dev32 (d0 : Dev nD) : Nat :=
  let c0_i32_1440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1439 : BitVec 32 := 1#32
  let v3082 : BitVec 32 := Scalar.muli v7 c1_i32_1439
  let v3083 : BitVec 32 := Scalar.addi c0_i32_1440 v3082
  v3083.toNat
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3278 : Index := Scalar.indexCast v3277
  let c8_1522 : Index := 8#32
  ![v3278.toNat, 8]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3280 : Index := Scalar.indexCast v3277
  let c0_1523 : Index := 0#32
  ![v3280.toNat, 0]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3290 : Index := Scalar.indexCast v3277
  let c128_1525 : Index := 128#32
  ![v3290.toNat, 128]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3300 : Index := Scalar.indexCast v3277
  let c256_1527 : Index := 256#32
  ![v3300.toNat, 256]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3310 : Index := Scalar.indexCast v3277
  let c384_1529 : Index := 384#32
  ![v3310.toNat, 384]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3320 : Index := Scalar.indexCast v3277
  let c512_1531 : Index := 512#32
  ![v3320.toNat, 512]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3330 : Index := Scalar.indexCast v3277
  let c640_1533 : Index := 640#32
  ![v3330.toNat, 640]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3340 : Index := Scalar.indexCast v3277
  let c768_1535 : Index := 768#32
  ![v3340.toNat, 768]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1521 : BitVec 32 := 128#32
  let v3277 : BitVec 32 := Scalar.muli v2 c128_i32_1521
  let v3350 : Index := Scalar.indexCast v3277
  let c896_1537 : Index := 896#32
  ![v3350.toNat, 896]
def k0_off47 (d0 : Dev nD) (c0_i32_1540 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1539 : BitVec 32 := 16#32
  let v3360 : BitVec 32 := Scalar.addi v2 c16_i32_1539
  let v3361 : BitVec 32 := Scalar.subi v3360 c0_i32_1540
  let c16_i32_1541 : BitVec 32 := 16#32
  let v3362 : BitVec 32 := Scalar.remsi v3361 c16_i32_1541
  let c128_i32_1542 : BitVec 32 := 128#32
  let v3363 : BitVec 32 := Scalar.muli v3362 c128_i32_1542
  let c0_i32_1547 : BitVec 32 := 0#32
  ![v3363.toNat, 0]
def k0_dev33 (d0 : Dev nD) : Nat :=
  let c0_i32_1546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1545 : BitVec 32 := 1#32
  let v3364 : BitVec 32 := Scalar.muli v7 c1_i32_1545
  let v3365 : BitVec 32 := Scalar.addi c0_i32_1546 v3364
  v3365.toNat
def k0_dev34 (d0 : Dev nD) : Nat :=
  let c0_i32_1567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1566 : BitVec 32 := 1#32
  let v3386 : BitVec 32 := Scalar.muli v7 c1_i32_1566
  let v3387 : BitVec 32 := Scalar.addi c0_i32_1567 v3386
  v3387.toNat
def k0_dev35 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1587 : BitVec 32 := 1#32
  let v3408 : BitVec 32 := Scalar.muli v7 c1_i32_1587
  let v3409 : BitVec 32 := Scalar.addi c0_i32_1588 v3408
  v3409.toNat
def k0_dev36 (d0 : Dev nD) : Nat :=
  let c0_i32_1609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1608 : BitVec 32 := 1#32
  let v3430 : BitVec 32 := Scalar.muli v7 c1_i32_1608
  let v3431 : BitVec 32 := Scalar.addi c0_i32_1609 v3430
  v3431.toNat
def k0_dev37 (d0 : Dev nD) : Nat :=
  let c0_i32_1630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1629 : BitVec 32 := 1#32
  let v3452 : BitVec 32 := Scalar.muli v7 c1_i32_1629
  let v3453 : BitVec 32 := Scalar.addi c0_i32_1630 v3452
  v3453.toNat
def k0_dev38 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1650 : BitVec 32 := 1#32
  let v3474 : BitVec 32 := Scalar.muli v7 c1_i32_1650
  let v3475 : BitVec 32 := Scalar.addi c0_i32_1651 v3474
  v3475.toNat
def k0_dev39 (d0 : Dev nD) : Nat :=
  let c0_i32_1672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1671 : BitVec 32 := 1#32
  let v3496 : BitVec 32 := Scalar.muli v7 c1_i32_1671
  let v3497 : BitVec 32 := Scalar.addi c0_i32_1672 v3496
  v3497.toNat
def k0_dev40 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1692 : BitVec 32 := 1#32
  let v3518 : BitVec 32 := Scalar.muli v7 c1_i32_1692
  let v3519 : BitVec 32 := Scalar.addi c0_i32_1693 v3518
  v3519.toNat
def k0_dev41 (d0 : Dev nD) : Nat :=
  let c0_i32_1714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1713 : BitVec 32 := 1#32
  let v3540 : BitVec 32 := Scalar.muli v7 c1_i32_1713
  let v3541 : BitVec 32 := Scalar.addi c0_i32_1714 v3540
  v3541.toNat
def k0_dev42 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1734 : BitVec 32 := 1#32
  let v3562 : BitVec 32 := Scalar.muli v7 c1_i32_1734
  let v3563 : BitVec 32 := Scalar.addi c0_i32_1735 v3562
  v3563.toNat
def k0_dev43 (d0 : Dev nD) : Nat :=
  let c0_i32_1756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1755 : BitVec 32 := 1#32
  let v3584 : BitVec 32 := Scalar.muli v7 c1_i32_1755
  let v3585 : BitVec 32 := Scalar.addi c0_i32_1756 v3584
  v3585.toNat
def k0_dev44 (d0 : Dev nD) : Nat :=
  let c0_i32_1777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1776 : BitVec 32 := 1#32
  let v3606 : BitVec 32 := Scalar.muli v7 c1_i32_1776
  let v3607 : BitVec 32 := Scalar.addi c0_i32_1777 v3606
  v3607.toNat
def k0_dev45 (d0 : Dev nD) : Nat :=
  let c0_i32_1798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1797 : BitVec 32 := 1#32
  let v3628 : BitVec 32 := Scalar.muli v7 c1_i32_1797
  let v3629 : BitVec 32 := Scalar.addi c0_i32_1798 v3628
  v3629.toNat
def k0_dev46 (d0 : Dev nD) : Nat :=
  let c0_i32_1819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1818 : BitVec 32 := 1#32
  let v3650 : BitVec 32 := Scalar.muli v7 c1_i32_1818
  let v3651 : BitVec 32 := Scalar.addi c0_i32_1819 v3650
  v3651.toNat
def k0_dev47 (d0 : Dev nD) : Nat :=
  let c0_i32_1840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1839 : BitVec 32 := 1#32
  let v3672 : BitVec 32 := Scalar.muli v7 c1_i32_1839
  let v3673 : BitVec 32 := Scalar.addi c0_i32_1840 v3672
  v3673.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S1024x1024 : Shape := ⟨2, ![1024, 1024]⟩
abbrev S32768x8x128 : Shape := ⟨3, ![32768, 8, 128]⟩
abbrev S2048x8x128 : Shape := ⟨3, ![2048, 8, 128]⟩
abbrev S2048 : Shape := ⟨1, ![2048]⟩
abbrev S_ : Shape := ⟨0, ![]⟩
abbrev S2048x1 : Shape := ⟨2, ![2048, 1]⟩
abbrev S32768 : Shape := ⟨1, ![32768]⟩
abbrev S1x32768 : Shape := ⟨2, ![1, 32768]⟩
abbrev S2048x32768 : Shape := ⟨2, ![2048, 32768]⟩
abbrev S8x2048x32768 : Shape := ⟨3, ![8, 2048, 32768]⟩
abbrev S1x2048x32768 : Shape := ⟨3, ![1, 2048, 32768]⟩
abbrev S8x2048 : Shape := ⟨2, ![8, 2048]⟩
abbrev S8x2048x1 : Shape := ⟨3, ![8, 2048, 1]⟩
abbrev S1x2048x1 : Shape := ⟨3, ![1, 2048, 1]⟩
abbrev S8x128x2048 : Shape := ⟨3, ![8, 128, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S32768x8x128, .bf16⟩
  | .hbm, ⟨3, _⟩ => ⟨S32768x8x128, .bf16⟩
  | .hbm, ⟨4, _⟩ => ⟨S1024x1024, .bf16⟩
  | .hbm, ⟨5, _⟩ => ⟨S2048x1024, .f32⟩
  | .hbm, ⟨6, _⟩ => ⟨S2048x1024, .bf16⟩
  | .hbm, ⟨7, _⟩ => ⟨S2048x8x128, .bf16⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S32768, .i32⟩
  | .hbm, ⟨29, _⟩ => ⟨S_, .i32⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S32768, .i32⟩
  | .hbm, ⟨38, _⟩ => ⟨S32768, .i32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S32768, .i1⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S32768, .i32⟩
  | .hbm, ⟨47, _⟩ => ⟨S1x32768, .i32⟩
  | .hbm, ⟨48, _⟩ => ⟨S2048x32768, .i32⟩
  | .hbm, ⟨49, _⟩ => ⟨S2048x32768, .i32⟩
  | .hbm, ⟨50, _⟩ => ⟨S2048x32768, .i1⟩
  | .hbm, ⟨51, _⟩ => ⟨S_, .i32⟩
  | .hbm, ⟨52, _⟩ => ⟨S1x32768, .i32⟩
  | .hbm, ⟨53, _⟩ => ⟨S1x32768, .i1⟩
  | .hbm, ⟨54, _⟩ => ⟨S2048x32768, .i1⟩
  | .hbm, ⟨55, _⟩ => ⟨S2048x32768, .i1⟩
  | .hbm, ⟨56, _⟩ => ⟨S2048x32768, .i32⟩
  | .hbm, ⟨57, _⟩ => ⟨S2048x32768, .i32⟩
  | .hbm, ⟨58, _⟩ => ⟨S2048x32768, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S2048x32768, .i32⟩
  | .hbm, ⟨66, _⟩ => ⟨S2048x32768, .i32⟩
  | .hbm, ⟨67, _⟩ => ⟨S_, .i32⟩
  | .hbm, ⟨68, _⟩ => ⟨S2048x32768, .i32⟩
  | .hbm, ⟨69, _⟩ => ⟨S2048x32768, .i1⟩
  | .hbm, ⟨70, _⟩ => ⟨S_, .i32⟩
  | .hbm, ⟨71, _⟩ => ⟨S2048x32768, .i32⟩
  | .hbm, ⟨72, _⟩ => ⟨S2048x32768, .i1⟩
  | .hbm, ⟨73, _⟩ => ⟨S_, .i32⟩
  | .hbm, ⟨74, _⟩ => ⟨S_, .i1⟩
  | .hbm, ⟨75, _⟩ => ⟨S2048x32768, .i1⟩
  | .hbm, ⟨76, _⟩ => ⟨S2048x32768, .i1⟩
  | .hbm, ⟨77, _⟩ => ⟨S2048x32768, .i1⟩
  | .hbm, ⟨78, _⟩ => ⟨S2048x32768, .i32⟩
  | .hbm, ⟨79, _⟩ => ⟨S2048x32768, .i32⟩
  | .hbm, ⟨80, _⟩ => ⟨S2048x32768, .i32⟩
  | .hbm, ⟨81, _⟩ => ⟨S_, .i32⟩
  | .hbm, ⟨82, _⟩ => ⟨S2048x32768, .i32⟩
  | .hbm, ⟨83, _⟩ => ⟨S2048x32768, .i1⟩
  | .hbm, ⟨84, _⟩ => ⟨S2048x32768, .i1⟩
  | .hbm, ⟨85, _⟩ => ⟨S8x2048x32768, .f32⟩
  | .hbm, ⟨86, _⟩ => ⟨S8x2048x32768, .bf16⟩
  | .hbm, ⟨87, _⟩ => ⟨S8x2048x32768, .f32⟩
  | .hbm, ⟨88, _⟩ => ⟨S_, .f32⟩
  | .hbm, ⟨89, _⟩ => ⟨S8x2048x32768, .f32⟩
  | .hbm, ⟨90, _⟩ => ⟨S8x2048x32768, .f32⟩
  | .hbm, ⟨91, _⟩ => ⟨S1x2048x32768, .i1⟩
  | .hbm, ⟨92, _⟩ => ⟨S_, .f32⟩
  | .hbm, ⟨93, _⟩ => ⟨S_, .f32⟩
  | .hbm, ⟨94, _⟩ => ⟨S8x2048x32768, .i1⟩
  | .hbm, ⟨95, _⟩ => ⟨S8x2048x32768, .f32⟩
  | .hbm, ⟨96, _⟩ => ⟨S8x2048x32768, .f32⟩
  | .hbm, ⟨97, _⟩ => ⟨S_, .f32⟩
  | .hbm, ⟨98, _⟩ => ⟨S8x2048, .f32⟩
  | .hbm, ⟨99, _⟩ => ⟨S8x2048x1, .f32⟩
  | .hbm, ⟨100, _⟩ => ⟨S8x2048x32768, .f32⟩
  | .hbm, ⟨101, _⟩ => ⟨S8x2048x32768, .f32⟩
  | .hbm, ⟨102, _⟩ => ⟨S8x2048x32768, .f32⟩
  | .hbm, ⟨103, _⟩ => ⟨S_, .i1⟩
  | .hbm, ⟨104, _⟩ => ⟨S2048, .i1⟩
  | .hbm, ⟨105, _⟩ => ⟨S1x2048x1, .i1⟩
  | .hbm, ⟨106, _⟩ => ⟨S_, .f32⟩
  | .hbm, ⟨107, _⟩ => ⟨S8x2048, .f32⟩
  | .hbm, ⟨108, _⟩ => ⟨S8x2048x1, .f32⟩
  | .hbm, ⟨109, _⟩ => ⟨S_, .f32⟩
  | .hbm, ⟨110, _⟩ => ⟨S_, .f32⟩
  | .hbm, ⟨111, _⟩ => ⟨S8x2048x1, .i1⟩
  | .hbm, ⟨112, _⟩ => ⟨S8x2048x1, .f32⟩
  | .hbm, ⟨113, _⟩ => ⟨S8x2048x1, .f32⟩
  | .hbm, ⟨114, _⟩ => ⟨S8x2048x32768, .f32⟩
  | .hbm, ⟨115, _⟩ => ⟨S8x2048x32768, .f32⟩
  | .hbm, ⟨116, _⟩ => ⟨S1x2048x1, .i1⟩
  | .hbm, ⟨117, _⟩ => ⟨S_, .f32⟩
  | .hbm, ⟨118, _⟩ => ⟨S_, .f32⟩
  | .hbm, ⟨119, _⟩ => ⟨S8x2048x32768, .i1⟩
  | .hbm, ⟨120, _⟩ => ⟨S8x2048x32768, .f32⟩
  | .hbm, ⟨121, _⟩ => ⟨S8x2048x32768, .f32⟩
  | .hbm, ⟨122, _⟩ => ⟨S32768x8x128, .f32⟩
  | .hbm, ⟨123, _⟩ => ⟨S8x128x2048, .f32⟩
  | .hbm, ⟨124, _⟩ => ⟨S2048x8x128, .f32⟩
  | .hbm, ⟨125, _⟩ => ⟨S2048x1024, .f32⟩
  | .hbm, ⟨126, _⟩ => ⟨S1024x1024, .f32⟩
  | .hbm, ⟨127, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Text.lean ====
/- The kernel's text, flat: the printed body as one nest of operations, cut in segments that take their
   continuation — the barrier and the query projection, the tile loop, one reduce-scatter hop, the division, one
   all-gather hop, the output projection. -/
module

public import proofs.«01_k».proof.Proof.Gen.KernelIdeal.Skeleton
public import proofs.«01_k».proof.Proof.Gen.KernelIdeal.Points
public import Idealize.ShloMosaic.Lib.Tactic

@[expose] public section

set_option maxRecDepth 16384

noncomputable section

namespace Cert.KernelIdeal.Gen.Attn

open Idealize.ShloMosaic Idealize.ShloMosaic.TcCoe
open Idealize.SL Idealize.SL.Sem

variable {F : FTy → Type} [FloatOps F] [Named F]

/-! ## The memrefs of the call -/

abbrev mX : Memref sig .tc .vmem S2048x1024 .bf16 := Memref.whole cc0_stg0_0
abbrev mWq : Memref sig .tc .vmem S1024x1024 .bf16 := Memref.whole cc0_stg1_0
abbrev mK : Memref sig .tc .vmem S2048x8x128 .bf16 := Memref.whole cc0_stg2_0
abbrev mV : Memref sig .tc .vmem S2048x8x128 .bf16 := Memref.whole cc0_stg3_0
abbrev mWo : Memref sig .tc .vmem S1024x1024 .bf16 := Memref.whole cc0_stg4_0
abbrev mOut : Memref sig .tc .vmem S2048x1024 .f32 := Memref.whole cc0_stg5_0
abbrev mQ : Memref sig .tc .vmem S2048x1024 .bf16 := Memref.whole cc0_scratch0
abbrev mML : Memref sig .tc .vmem S2048x16 .f32 := Memref.whole cc0_scratch1
abbrev mO : Memref sig .tc .vmem S2048x1024 .f32 := Memref.whole cc0_scratch2
abbrev mSO : Memref sig .tc .vmem S128x1024 .bf16 := Memref.whole cc0_scratch3
abbrev mRML : Memref sig .tc .vmem S15x128x16 .f32 := Memref.whole cc0_scratch4
abbrev mRO : Memref sig .tc .vmem S15x128x1024 .bf16 := Memref.whole cc0_scratch5

/-- The kernel's programs. -/
abbrev Pg (F : FTy → Type) := Prog (TpuEff nD τ sig (Elt F) Λ₀ .tc) PUnit

/-! ## Facts of the slabs, at a hop -/

theorem inbRML (k : Fin 15) : ∀ a, (![k.val, 0, 0] : Fin 3 → Nat) a + S1x128x16.size a ≤ S15x128x16.size a := by
  revert k; decide
theorem inbRO (k : Fin 15) : ∀ a, (![k.val, 0, 0] : Fin 3 → Nat) a + S1x128x1024.size a ≤ S15x128x1024.size a := by
  revert k; decide
theorem inbSem (k : Fin 15) : ∀ a, (![k.val] : Fin 1 → Nat) a + S1.size a ≤ S15.size a := by
  revert k; decide
theorem inbHead (h : Fin 8) : ∀ a, (![0, h.val, 0] : Fin 3 → Nat) a + S2048x1x128.size a ≤ S2048x8x128.size a := by
  revert h; decide
theorem inbTile (t : Fin 4) : ∀ a, (![512 * t.val, 0] : Fin 2 → Nat) a + S512x1024.size a ≤ S2048x1024.size a := by
  revert t; decide
theorem wordsRO (k : Fin 15) : (Rect.unit (s := S15x128x1024) ![k.val, 0, 0] S1x128x1024.size (inbRO k)).WholeWords (EltTy.packing .bf16) := by
  revert k; decide

/-- A hop's semaphore of a family. -/
abbrev semOf (A : DmaSems sig S15) (k : Fin 15) : DmaSem sig :=
  ((A.slice (Rect.unit (s := S15) ![k.val] S1.size (inbSem k))).squeeze S_ squeezes_S1_S_).sem
/-- The slabs a hop lands in. -/
abbrev slabML (k : Fin 15) : Memref sig .tc .vmem S128x16 .f32 :=
  (mRML.slice (Rect.unit (s := S15x128x16) ![k.val, 0, 0] S1x128x16.size (inbRML k)) (fun _ => rfl)).squeeze S128x16 squeezes_S1x128x16_S128x16
abbrev slabO (k : Fin 15) : Memref sig .tc .vmem S128x1024 .bf16 :=
  (mRO.slice (Rect.unit (s := S15x128x1024) ![k.val, 0, 0] S1x128x1024.size (inbRO k)) (fun _ => rfl)).squeeze S128x1024 squeezes_S1x128x1024_S128x1024
/-- The rows a hop copies: of the running maxima and sums, and of the contexts. -/
abbrev rowsML (d : Dev nD) (k : Fin 15) : Memref sig .tc .vmem S128x16 .f32 :=
  mML.slice (Rect.unit (s := S2048x16) (k0_off26 d (BitVec.ofNat 32 k.val)) S128x16.size (k0_off26_inb d k)) (fun _ => rfl)
abbrev rowsQ (d : Dev nD) (k : Fin 15) : Memref sig .tc .vmem S128x1024 .bf16 :=
  mQ.slice (Rect.unit (s := S2048x1024) (k0_off47 d (BitVec.ofNat 32 k.val)) S128x1024.size (k0_off47_inb d k)) (fun _ => rfl)

/-! ## The tile loop's trip -/

/-- A head's offsets in a trip: of the queries and the output, of the maxima, of the sums. -/
abbrev tq (t : Fin k0_t1_loop.trips) : Fin 8 → Fin 2 → Nat := ![k0_off1 t, k0_off4 t, k0_off7 t, k0_off10 t, k0_off13 t, k0_off16 t, k0_off19 t, k0_off22 t]
abbrev tm (t : Fin k0_t1_loop.trips) : Fin 8 → Fin 2 → Nat := ![k0_off2 t, k0_off5 t, k0_off8 t, k0_off11 t, k0_off14 t, k0_off17 t, k0_off20 t, k0_off23 t]
abbrev tl (t : Fin k0_t1_loop.trips) : Fin 8 → Fin 2 → Nat := ![k0_off3 t, k0_off6 t, k0_off9 t, k0_off12 t, k0_off15 t, k0_off18 t, k0_off21 t, k0_off24 t]

theorem tq_inb (t : Fin k0_t1_loop.trips) : ∀ h a, tq t h a + S128x128.size a ≤ S2048x1024.size a
  | 0 => k0_off1_inb t | 1 => k0_off4_inb t | 2 => k0_off7_inb t | 3 => k0_off10_inb t
  | 4 => k0_off13_inb t | 5 => k0_off16_inb t | 6 => k0_off19_inb t | 7 => k0_off22_inb t
theorem tm_inb (t : Fin k0_t1_loop.trips) : ∀ h a, tm t h a + S128x1.size a ≤ S2048x16.size a
  | 0 => k0_off2_inb t | 1 => k0_off5_inb t | 2 => k0_off8_inb t | 3 => k0_off11_inb t
  | 4 => k0_off14_inb t | 5 => k0_off17_inb t | 6 => k0_off20_inb t | 7 => k0_off23_inb t
theorem tl_inb (t : Fin k0_t1_loop.trips) : ∀ h a, tl t h a + S128x1.size a ≤ S2048x16.size a
  | 0 => k0_off3_inb t | 1 => k0_off6_inb t | 2 => k0_off9_inb t | 3 => k0_off12_inb t
  | 4 => k0_off15_inb t | 5 => k0_off18_inb t | 6 => k0_off21_inb t | 7 => k0_off24_inb t

/-- One head of a trip: the local attention of a query tile over the device's keys. -/
def tileHead (t : Fin k0_t1_loop.trips) (mask : FVec F S128x2048 .f32) (h : Fin 8) (K : Pg F) : Pg F :=
  .op (.load mQ (Rect.unit (s := S2048x1024) (tq t h) S128x128.size (tq_inb t h)).toLoadRect (View.loadsAt_vmem h_S128x128)) fun q =>
  .op (.load mK (Rect.unit (s := S2048x8x128) ![0, h.val, 0] S2048x1x128.size (inbHead h)).toLoadRect (View.loadsAt_vmem h_S2048x1x128)) fun k =>
  .op (.load mV (Rect.unit (s := S2048x8x128) ![0, h.val, 0] S2048x1x128.size (inbHead h)).toLoadRect (View.loadsAt_vmem h_S2048x1x128)) fun v =>
  .op (.load mML (Rect.unit (s := S2048x16) (tm t h) S128x1.size (tm_inb t h)).toLoadRect (View.loadsAt_vmem h_S128x1)) fun _ =>
  .op (.store mML (Rect.unit (s := S2048x16) (tm t h) S128x1.size (tm_inb t h)) (k0_pay6 mask q k) Finset.univ (View.stores_vmem_bits_univ h_S128x1 rfl) (.inl rfl)) fun _ =>
  .op (.load mML (Rect.unit (s := S2048x16) (tl t h) S128x1.size (tl_inb t h)).toLoadRect (View.loadsAt_vmem h_S128x1)) fun _ =>
  .op (.store mML (Rect.unit (s := S2048x16) (tl t h) S128x1.size (tl_inb t h)) (k0_pay7 mask q k) Finset.univ (View.stores_vmem_bits_univ h_S128x1 rfl) (.inl rfl)) fun _ =>
  .op (.load mO (Rect.unit (s := S2048x1024) (tq t h) S128x128.size (tq_inb t h)).toLoadRect (View.loadsAt_vmem h_S128x128)) fun _ =>
  .op (.store mO (Rect.unit (s := S2048x1024) (tq t h) S128x128.size (tq_inb t h)) (k0_pay8 mask q k v) Finset.univ (View.stores_vmem_bits_univ h_S128x128 rfl) (.inl rfl)) fun _ => K

/-- One trip: the eight heads. -/
def trip (t : Fin k0_t1_loop.trips) (mask : FVec F S128x2048 .f32) : Pg F :=
  tileHead t mask 0 <| tileHead t mask 1 <| tileHead t mask 2 <| tileHead t mask 3 <|
  tileHead t mask 4 <| tileHead t mask 5 <| tileHead t mask 6 <| tileHead t mask 7 <| .ret ⟨⟩

/-- The tile's additive mask on a device: 0 where the query block may read the key block, the mask's constant elsewhere. -/
abbrev maskOf (d : Dev nD) (t : Fin k0_t1_loop.trips) : FVec F S128x2048 .f32 :=
  k0_pay2 (k0_pay59 (Scalar.remsi (Scalar.divsi (Dev.word d) 1#32) 16#32) (iota .tc S128x2048 32 [1] iota_S128x2048_d1_w32) 64#32 k0_pay56 k0_pay57 k0_pay58)
    (iota .tc S128x2048 32 [0] iota_S128x2048_d0_w32) 0#32 1#32 t

/-! ## A reduce-scatter hop -/

abbrev ho (d : Dev nD) (w : BitVec 32) : Fin 8 → Fin 2 → Nat := ![k0_off30 d w, k0_off31 d w, k0_off32 d w, k0_off33 d w, k0_off34 d w, k0_off35 d w, k0_off36 d w, k0_off37 d w]
theorem ho_inb (d : Dev nD) (r : Fin 15) : ∀ h a, ho d (BitVec.ofNat 32 r.val) h a + S128x128.size a ≤ S2048x1024.size a
  | 0 => k0_off30_inb d r | 1 => k0_off31_inb d r | 2 => k0_off32_inb d r | 3 => k0_off33_inb d r
  | 4 => k0_off34_inb d r | 5 => k0_off35_inb d r | 6 => k0_off36_inb d r | 7 => k0_off37_inb d r

/-- A head's merged output: the running one times `a`'s column plus the received one times `b`'s. -/
def hopPay (a b : FVec F S128x8 .f32) (o : Vec F S128x128 .f32) (r : Vec F S1x128x1024 .bf16) : Fin 8 → FVec F S128x128 .f32
  | 0 => k0_pay73 a b o r
  | 1 => k0_pay74 a b o r
  | 2 => k0_pay77 b (k0_pay75 a o) (k0_pay76 r)
  | 3 => k0_pay78 a b o r
  | 4 => k0_pay79 a b o r
  | 5 => k0_pay80 a b o r
  | 6 => k0_pay81 a b o r
  | 7 => k0_pay83 (k0_pay82 a b o r)

/-- One head of a hop's merge. -/
def hopHead (d : Dev nD) (r : Fin 15) (a b : FVec F S128x8 .f32) (h : Fin 8) (K : Pg F) : Pg F :=
  .op (.load mO (Rect.unit (s := S2048x1024) (ho d (BitVec.ofNat 32 r.val) h) S128x128.size (ho_inb d r h)).toLoadRect (View.loadsAt_vmem h_S128x128)) fun o =>
  .op (.load mRO (Rect.unit (s := S15x128x1024) ![r.val, 0, 0] S1x128x1024.size (inbRO r)).toLoadRect (View.loadsAt_vmem h_S1x128x1024)) fun v =>
  .op (.load mO (Rect.unit (s := S2048x1024) (ho d (BitVec.ofNat 32 r.val) h) S128x128.size (ho_inb d r h)).toLoadRect (View.loadsAt_vmem h_S128x128)) fun _ =>
  .op (.store mO (Rect.unit (s := S2048x1024) (ho d (BitVec.ofNat 32 r.val) h) S128x128.size (ho_inb d r h)) (hopPay a b o v h) Finset.univ (View.stores_vmem_bits_univ h_S128x128 rfl) (.inl rfl)) fun _ => K

/-- A hop's merge: of the maxima and sums, then of the eight heads' outputs. -/
def hopMerge (d : Dev nD) (r : Fin 15) (K : Pg F) : Pg F :=
  .op (.load mML (Rect.unit (s := S2048x16) (k0_off27 d (BitVec.ofNat 32 r.val)) S128x16.size (k0_off27_inb d r)).toLoadRect (View.loadsAt_vmem h_S128x16)) fun x =>
  .op (.load mRML (Rect.unit (s := S15x128x16) ![r.val, 0, 0] S1x128x16.size (inbRML r)).toLoadRect (View.loadsAt_vmem h_S1x128x16)) fun y =>
  .op (.load mML (Rect.unit (s := S2048x16) (k0_off28 d (BitVec.ofNat 32 r.val)) S128x8.size (k0_off28_inb d r)).toLoadRect (View.loadsAt_vmem h_S128x8)) fun _ =>
  .op (.store mML (Rect.unit (s := S2048x16) (k0_off28 d (BitVec.ofNat 32 r.val)) S128x8.size (k0_off28_inb d r)) (k0_pay70 x y) Finset.univ (View.stores_vmem_bits_univ h_S128x8 rfl) (.inl rfl)) fun _ =>
  .op (.load mML (Rect.unit (s := S2048x16) (k0_off29 d (BitVec.ofNat 32 r.val)) S128x8.size (k0_off29_inb d r)).toLoadRect (View.loadsAt_vmem h_S128x8)) fun _ =>
  .op (.store mML (Rect.unit (s := S2048x16) (k0_off29 d (BitVec.ofNat 32 r.val)) S128x8.size (k0_off29_inb d r)) (k0_pay72 (k0_pay71 x y)) Finset.univ (View.stores_vmem_bits_univ h_S128x8 rfl) (.inl rfl)) fun _ =>
  hopHead d r (k0_pay68 x y) (k0_pay69 x y) 0 <| hopHead d r (k0_pay68 x y) (k0_pay69 x y) 1 <|
  hopHead d r (k0_pay68 x y) (k0_pay69 x y) 2 <| hopHead d r (k0_pay68 x y) (k0_pay69 x y) 3 <|
  hopHead d r (k0_pay68 x y) (k0_pay69 x y) 4 <| hopHead d r (k0_pay68 x y) (k0_pay69 x y) 5 <|
  hopHead d r (k0_pay68 x y) (k0_pay69 x y) 6 <| hopHead d r (k0_pay68 x y) (k0_pay69 x y) 7 K

/-- A hop's exchange: the rows staged in bf16, both copies to the devices `n₁` and `n₂`, the four waits. -/
def hopSend (d : Dev nD) (r : Fin 15) (n₁ n₂ : Dev nD) (K : Pg F) : Pg F :=
  .op (.load mO (Rect.unit (s := S2048x1024) (k0_off25 d (BitVec.ofNat 32 r.val)) S128x1024.size (k0_off25_inb d r)).toLoadRect (View.loadsAt_vmem h_S128x1024)) fun o =>
  .op (.load mSO (Rect.unit (s := S128x1024) ![0, 0] S128x1024.size inb_S128x1024_S128x1024_0_0).toLoadRect (View.loadsAt_vmem h_S128x1024)) fun _ =>
  .op (.store mSO (Rect.unit (s := S128x1024) ![0, 0] S128x1024.size inb_S128x1024_S128x1024_0_0) (k0_pay63 o) Finset.univ (View.stores_vmem h_S128x1024 ((Memref.isWhole_whole _).storeExact_slice rfl _ packedbf16_S128x1024_S128x1024_0_0) (fun _ => rfl)) (.inl rfl)) fun _ =>
  .op (.enqueueDma (rowsML d r) (.remote (Dev.tc n₁) (slabML r) (.dma (semOf cc0_scratch6 r))) (.dma (semOf cc0_scratch7 r)) (View.wordExact_bits rfl) ((View.wordExact_bits rfl).reshape _ _) ⟨⟨rfl, Or.inl rfl⟩, trivial⟩) fun _ =>
  .op (.enqueueDma mSO (.remote (Dev.tc n₂) (slabO r) (.dma (semOf cc0_scratch8 r))) (.dma (semOf cc0_scratch9 r)) (Memref.isWhole_whole _).wordExact (((Memref.isWhole_whole _).wordExact_slice rfl _ (wordsRO r)).reshape _ _) ⟨⟨rfl, Or.inl rfl⟩, trivial⟩) fun _ =>
  .op (.waitDma2 (semOf cc0_scratch6 r) (slabML r) (rowsML d r) ((View.wordExact_bits rfl).reshape _ _) (View.wordExact_bits rfl)) fun _ =>
  .op (.waitDma2 (semOf cc0_scratch7 r) (rowsML d r) (slabML r) (View.wordExact_bits rfl) ((View.wordExact_bits rfl).reshape _ _)) fun _ =>
  .op (.waitDma2 (semOf cc0_scratch8 r) (slabO r) mSO (((Memref.isWhole_whole _).wordExact_slice rfl _ (wordsRO r)).reshape _ _) (Memref.isWhole_whole _).wordExact) fun _ =>
  .op (.waitDma2 (semOf cc0_scratch9 r) mSO (slabO r) (Memref.isWhole_whole _).wordExact (((Memref.isWhole_whole _).wordExact_slice rfl _ (wordsRO r)).reshape _ _)) fun _ => K

/-- A reduce-scatter hop. -/
def hop (d : Dev nD) (r : Fin 15) (n₁ n₂ : Dev nD) (K : Pg F) : Pg F := hopSend d r n₁ n₂ (hopMerge d r K)

/-! ## The division -/

abbrev mo (d : Dev nD) : Fin 8 → Fin 2 → Nat := ![k0_off39 d, k0_off40 d, k0_off41 d, k0_off42 d, k0_off43 d, k0_off44 d, k0_off45 d, k0_off46 d]
theorem mo_inb (d : Dev nD) : ∀ h a, mo d h a + S128x128.size a ≤ S2048x1024.size a
  | 0 => k0_off39_inb d | 1 => k0_off40_inb d | 2 => k0_off41_inb d | 3 => k0_off42_inb d
  | 4 => k0_off43_inb d | 5 => k0_off44_inb d | 6 => k0_off45_inb d | 7 => k0_off46_inb d
theorem mo_packed (d : Dev nD) : ∀ h, (Rect.unit (s := S2048x1024) (mo d h) S128x128.size (mo_inb d h)).PackedRows (EltTy.packing .bf16)
  | 0 => k0_off39_packedbf16 d | 1 => k0_off40_packedbf16 d | 2 => k0_off41_packedbf16 d | 3 => k0_off42_packedbf16 d
  | 4 => k0_off43_packedbf16 d | 5 => k0_off44_packedbf16 d | 6 => k0_off45_packedbf16 d | 7 => k0_off46_packedbf16 d

/-- A head's context: its merged output over its merged sum. -/
def midPay (l : Vec F S128x8 .f32) (o : Vec F S128x128 .f32) : Fin 8 → FVec F S128x128 .bf16
  | 0 => k0_pay381 l o | 1 => k0_pay382 l o | 2 => k0_pay383 l o | 3 => k0_pay384 l o
  | 4 => k0_pay385 l o | 5 => k0_pay386 l o | 6 => k0_pay387 l o | 7 => k0_pay388 l o

def midHead (d : Dev nD) (l : Vec F S128x8 .f32) (h : Fin 8) (K : Pg F) : Pg F :=
  .op (.load mO (Rect.unit (s := S2048x1024) (mo d h) S128x128.size (mo_inb d h)).toLoadRect (View.loadsAt_vmem h_S128x128)) fun o =>
  .op (.load mQ (Rect.unit (s := S2048x1024) (mo d h) S128x128.size (mo_inb d h)).toLoadRect (View.loadsAt_vmem h_S128x128)) fun _ =>
  .op (.store mQ (Rect.unit (s := S2048x1024) (mo d h) S128x128.size (mo_inb d h)) (midPay l o h) Finset.univ (View.stores_vmem h_S128x128 ((Memref.isWhole_whole _).storeExact_slice rfl _ (mo_packed d h)) (fun _ => rfl)) (.inl rfl)) fun _ => K

/-- The division of the device's own rows. -/
def mid (d : Dev nD) (K : Pg F) : Pg F :=
  .op (.load mML (Rect.unit (s := S2048x16) (k0_off38 d) S128x8.size (k0_off38_inb d)).toLoadRect (View.loadsAt_vmem h_S128x8)) fun l =>
  midHead d l 0 <| midHead d l 1 <| midHead d l 2 <| midHead d l 3 <| midHead d l 4 <| midHead d l 5 <| midHead d l 6 <| midHead d l 7 K

/-! ## An all-gather hop -/

def agHop (d : Dev nD) (r : Fin 15) (n : Dev nD) (K : Pg F) : Pg F :=
  .op (.enqueueDma (rowsQ d r) (.remote (Dev.tc n) (rowsQ d r) (.dma (semOf cc0_scratch10 r))) (.dma (semOf cc0_scratch11 r)) ((Memref.isWhole_whole _).wordExact_slice rfl _ (k0_off47_wordsbf16 d r)) ((Memref.isWhole_whole _).wordExact_slice rfl _ (k0_off47_wordsbf16 d r)) ⟨⟨rfl, Or.inl rfl⟩, trivial⟩) fun _ =>
  .op (.waitDma2 (semOf cc0_scratch10 r) (rowsQ d r) (rowsQ d r) ((Memref.isWhole_whole _).wordExact_slice rfl _ (k0_off47_wordsbf16 d r)) ((Memref.isWhole_whole _).wordExact_slice rfl _ (k0_off47_wordsbf16 d r))) fun _ =>
  .op (.waitDma2 (semOf cc0_scratch11 r) (rowsQ d r) (rowsQ d r) ((Memref.isWhole_whole _).wordExact_slice rfl _ (k0_off47_wordsbf16 d r)) ((Memref.isWhole_whole _).wordExact_slice rfl _ (k0_off47_wordsbf16 d r))) fun _ => K

/-! ## The output projection -/

def outTile (t : Fin 4) (K : Pg F) : Pg F :=
  .op (.load mQ (Rect.unit (s := S2048x1024) ![512 * t.val, 0] S512x1024.size (inbTile t)).toLoadRect (View.loadsAt_vmem h_S512x1024)) fun x =>
  .op (.load mWo (Rect.unit (s := S1024x1024) ![0, 0] S1024x1024.size inb_S1024x1024_S1024x1024_0_0).toLoadRect (View.loadsAt_vmem h_S1024x1024)) fun w =>
  .op (.load mOut (Rect.unit (s := S2048x1024) ![512 * t.val, 0] S512x1024.size (inbTile t)).toLoadRect (View.loadsAt_vmem h_S512x1024)) fun _ =>
  .op (.store mOut (Rect.unit (s := S2048x1024) ![512 * t.val, 0] S512x1024.size (inbTile t)) (k0_pay1 x w) Finset.univ (View.stores_vmem_bits_univ h_S512x1024 rfl) (.inl rfl)) fun _ => K

def outProj : Pg F := outTile 0 <| outTile 1 <| outTile 2 <| outTile 3 <| .ret ⟨⟩

/-! ## The barrier and the query projection -/

def pre (n₁ n₂ : Dev nD → Dev nD) (K : Dev nD → Pg F) : Pg F :=
  .op .deviceId fun d =>
  (semSignalWord (n₁ d) (SemArray.scalar (sig.barrier 0 rfl) : Sems sig S_).sem 1#32).bind fun _ =>
  (semSignalWord (n₂ d) (SemArray.scalar (sig.barrier 0 rfl) : Sems sig S_).sem 1#32).bind fun _ =>
  (semWaitWord (SemArray.scalar (sig.barrier 0 rfl) : Sems sig S_).sem 2#32).bind fun _ =>
  .op (.load mX (Rect.unit (s := S2048x1024) ![0, 0] S2048x1024.size inb_S2048x1024_S2048x1024_0_0).toLoadRect (View.loadsAt_vmem h_S2048x1024)) fun x =>
  .op (.load mWq (Rect.unit (s := S1024x1024) ![0, 0] S1024x1024.size inb_S1024x1024_S1024x1024_0_0).toLoadRect (View.loadsAt_vmem h_S1024x1024)) fun w =>
  .op (.load mQ (Rect.unit (s := S2048x1024) ![0, 0] S2048x1024.size inb_S2048x1024_S2048x1024_0_0).toLoadRect (View.loadsAt_vmem h_S2048x1024)) fun _ =>
  .op (.store mQ (Rect.unit (s := S2048x1024) ![0, 0] S2048x1024.size inb_S2048x1024_S2048x1024_0_0) (k0_pay55 x w) Finset.univ (View.stores_vmem h_S2048x1024 ((Memref.isWhole_whole _).storeExact_slice rfl _ packedbf16_S2048x1024_S2048x1024_0_0) (fun _ => rfl)) (.inl rfl)) fun _ => K d

/-! ## The whole -/

/-- The reduce-scatter's last `n` hops. -/
def hops (d : Dev nD) (K : Pg F) : (n : ℕ) → n ≤ 15 → Pg F
  | 0, _ => K
  | n + 1, h => hop d ⟨14 - n, by omega⟩ ⟨(d.val + 1) % 16, Nat.mod_lt _ (by decide)⟩ ⟨(d.val + 1) % 16, Nat.mod_lt _ (by decide)⟩ (hops d K n (by omega))
/-- The all-gather's last `n` hops. -/
def ags (d : Dev nD) (K : Pg F) : (n : ℕ) → n ≤ 15 → Pg F
  | 0, _ => K
  | n + 1, h => agHop d ⟨14 - n, by omega⟩ ⟨(d.val + 1) % 16, Nat.mod_lt _ (by decide)⟩ (ags d K n (by omega))

/-- The body after the loop, at the printed device terms. -/
def tailPrinted (d : Dev nD) : Pg F :=
  hop d 0 ⟨k0_dev3 d, k0_dev3_lt d⟩ ⟨k0_dev4 d, k0_dev4_lt d⟩ <| hop d 1 ⟨k0_dev5 d, k0_dev5_lt d⟩ ⟨k0_dev6 d, k0_dev6_lt d⟩ <|
  hop d 2 ⟨k0_dev7 d, k0_dev7_lt d⟩ ⟨k0_dev8 d, k0_dev8_lt d⟩ <| hop d 3 ⟨k0_dev9 d, k0_dev9_lt d⟩ ⟨k0_dev10 d, k0_dev10_lt d⟩ <|
  hop d 4 ⟨k0_dev11 d, k0_dev11_lt d⟩ ⟨k0_dev12 d, k0_dev12_lt d⟩ <| hop d 5 ⟨k0_dev13 d, k0_dev13_lt d⟩ ⟨k0_dev14 d, k0_dev14_lt d⟩ <|
  hop d 6 ⟨k0_dev15 d, k0_dev15_lt d⟩ ⟨k0_dev16 d, k0_dev16_lt d⟩ <| hop d 7 ⟨k0_dev17 d, k0_dev17_lt d⟩ ⟨k0_dev18 d, k0_dev18_lt d⟩ <|
  hop d 8 ⟨k0_dev19 d, k0_dev19_lt d⟩ ⟨k0_dev20 d, k0_dev20_lt d⟩ <| hop d 9 ⟨k0_dev21 d, k0_dev21_lt d⟩ ⟨k0_dev22 d, k0_dev22_lt d⟩ <|
  hop d 10 ⟨k0_dev23 d, k0_dev23_lt d⟩ ⟨k0_dev24 d, k0_dev24_lt d⟩ <| hop d 11 ⟨k0_dev25 d, k0_dev25_lt d⟩ ⟨k0_dev26 d, k0_dev26_lt d⟩ <|
  hop d 12 ⟨k0_dev27 d, k0_dev27_lt d⟩ ⟨k0_dev28 d, k0_dev28_lt d⟩ <| hop d 13 ⟨k0_dev29 d, k0_dev29_lt d⟩ ⟨k0_dev30 d, k0_dev30_lt d⟩ <|
  hop d 14 ⟨k0_dev31 d, k0_dev31_lt d⟩ ⟨k0_dev32 d, k0_dev32_lt d⟩ <| mid d <|
  agHop d 0 ⟨k0_dev33 d, k0_dev33_lt d⟩ <| agHop d 1 ⟨k0_dev34 d, k0_dev34_lt d⟩ <| agHop d 2 ⟨k0_dev35 d, k0_dev35_lt d⟩ <|
  agHop d 3 ⟨k0_dev36 d, k0_dev36_lt d⟩ <| agHop d 4 ⟨k0_dev37 d, k0_dev37_lt d⟩ <| agHop d 5 ⟨k0_dev38 d, k0_dev38_lt d⟩ <|
  agHop d 6 ⟨k0_dev39 d, k0_dev39_lt d⟩ <| agHop d 7 ⟨k0_dev40 d, k0_dev40_lt d⟩ <| agHop d 8 ⟨k0_dev41 d, k0_dev41_lt d⟩ <|
  agHop d 9 ⟨k0_dev42 d, k0_dev42_lt d⟩ <| agHop d 10 ⟨k0_dev43 d, k0_dev43_lt d⟩ <| agHop d 11 ⟨k0_dev44 d, k0_dev44_lt d⟩ <|
  agHop d 12 ⟨k0_dev45 d, k0_dev45_lt d⟩ <| agHop d 13 ⟨k0_dev46 d, k0_dev46_lt d⟩ <| agHop d 14 ⟨k0_dev47 d, k0_dev47_lt d⟩ <|
  outProj

/-- The body after the loop, at the right neighbour. -/
def tail (d : Dev nD) : Pg F := hops d (mid d (ags d outProj 15 le_rfl)) 15 le_rfl

/-- The printed device terms are the right neighbour. -/
theorem tailPrinted_eq (d : Dev nD) : tailPrinted (F := F) d = tail d := by
  unfold tailPrinted
  simp only [k0_dev3_eq, k0_dev4_eq, k0_dev5_eq, k0_dev6_eq, k0_dev7_eq, k0_dev8_eq, k0_dev9_eq, k0_dev10_eq, k0_dev11_eq, k0_dev12_eq,
    k0_dev13_eq, k0_dev14_eq, k0_dev15_eq, k0_dev16_eq, k0_dev17_eq, k0_dev18_eq, k0_dev19_eq, k0_dev20_eq, k0_dev21_eq, k0_dev22_eq,
    k0_dev23_eq, k0_dev24_eq, k0_dev25_eq, k0_dev26_eq, k0_dev27_eq, k0_dev28_eq, k0_dev29_eq, k0_dev30_eq, k0_dev31_eq, k0_dev32_eq,
    k0_dev33_eq, k0_dev34_eq, k0_dev35_eq, k0_dev36_eq, k0_dev37_eq, k0_dev38_eq, k0_dev39_eq, k0_dev40_eq, k0_dev41_eq, k0_dev42_eq,
    k0_dev43_eq, k0_dev44_eq, k0_dev45_eq, k0_dev46_eq, k0_dev47_eq]
  rfl

set_option maxRecDepth 65536 in
/-- A trip of the printed loop is the flat trip. -/
theorem trip_eq (d : Dev nD) (v7 : BitVec 32) (t : Fin k0_t1_loop.trips) :
    k0_t1_body (F := F) mX (Memref.isWhole_whole _) mWq (Memref.isWhole_whole _) mK (Memref.isWhole_whole _) mV (Memref.isWhole_whole _) mWo (Memref.isWhole_whole _) mOut (Memref.isWhole_whole _)
      mQ (Memref.isWhole_whole _) mML (Memref.isWhole_whole _) mO (Memref.isWhole_whole _) mSO (Memref.isWhole_whole _) mRML (Memref.isWhole_whole _) mRO (Memref.isWhole_whole _)
      cc0_scratch6 cc0_scratch7 cc0_scratch8 cc0_scratch9 cc0_scratch10 cc0_scratch11 d (Scalar.remsi (Scalar.divsi (Dev.word d) 1#32) 16#32) v7
      (iota .tc S128x2048 32 [1] iota_S128x2048_d1_w32) 64#32 k0_pay56 k0_pay57 k0_pay58 (iota .tc S128x2048 32 [0] iota_S128x2048_d0_w32) t ⟨⟩
      = trip t (maskOf d t) := rfl

/-- The tile loop on a device. -/
def tiles (d : Dev nD) : Prog (TpuEff nD τ sig (Elt F) Λ₀ .tc) Unit :=
  Scf.Loop.for k0_t1_loop k0_t1_ok ⟨⟩ fun t _ => trip (F := F) t (maskOf d t)

set_option maxRecDepth 65536 in
/-- The printed body is the flat text. -/
theorem body_eq : cc0_body (F := F) mX (Memref.isWhole_whole _) mWq (Memref.isWhole_whole _) mK (Memref.isWhole_whole _) mV (Memref.isWhole_whole _) mWo (Memref.isWhole_whole _) mOut (Memref.isWhole_whole _)
      mQ (Memref.isWhole_whole _) mML (Memref.isWhole_whole _) mO (Memref.isWhole_whole _) mSO (Memref.isWhole_whole _) mRML (Memref.isWhole_whole _) mRO (Memref.isWhole_whole _)
      cc0_scratch6 cc0_scratch7 cc0_scratch8 cc0_scratch9 cc0_scratch10 cc0_scratch11
      = pre (fun d => ⟨k0_dev1 d, k0_dev1_lt d⟩) (fun d => ⟨k0_dev2 d, k0_dev2_lt d⟩) (fun d => (tiles d).bind fun _ => tailPrinted d) := by
  rw [cc0_body_eq_skeleton]
  unfold cc0_body_skel
  rw [k0_part107_eq_skeleton]
  unfold k0_part107_skel
  simp only [bind_assoc]
  rw [k0_part8_eq_skeleton, k0_part9_eq_skeleton]
  unfold k0_part9_skel k0_part8_skel
  simp only [bind_assoc, pure_bind]
  rfl

end Cert.KernelIdeal.Gen.Attn

end
-- ==== Proof.Vals.lean ====
/- What the kernel's buffers hold: the local attention of the tile loop, the reduce-scatter's states hop by hop, the
   contexts the all-gather spreads, the output. Functions of the call's arguments and of the operations alone. -/
module

public import proofs.«01_k».proof.Proof.Text
public import Idealize.ShloMosaic.Lib.ValueIdxCore
public import Idealize.ShloMosaic.Lib.WritesUnit

@[expose] public section

set_option maxRecDepth 16384

noncomputable section

namespace Cert.KernelIdeal.Gen.Attn

open Idealize.ShloMosaic Idealize.ShloMosaic.TcCoe Idealize.ShloMosaic.ValueIdx
open Idealize.SL Idealize.SL.Sem

variable {F : FTy → Type} [FloatOps F] [Named F]

/-- A buffer's contents. -/
abbrev Ct (F : FTy → Type) (b : Ref sig .tc) := b.ty.Contents (Elt F)

/-- The argument blocks of every device, as the call stages them. -/
structure Ins (F : FTy → Type) where
  /-- the activations -/
  x : Dev nD → Ct F cc0_stg0_0
  /-- the query weights -/
  wq : Dev nD → Ct F cc0_stg1_0
  /-- the keys -/
  k : Dev nD → Ct F cc0_stg2_0
  /-- the values -/
  v : Dev nD → Ct F cc0_stg3_0
  /-- the output weights -/
  wo : Dev nD → Ct F cc0_stg4_0

/-- A load's value and a store's result at a rectangle. -/
abbrev rd {s : Shape} {e : EltTy} (m : Memref sig .tc .vmem s e) (r : Rect s) (f : m.view.ty.Contents (Elt F)) : r.shape.Idx → Elt F e :=
  m.view.readAt (Elt F) r.toLoadRect f
abbrev wr {s : Shape} {e : EltTy} (m : Memref sig .tc .vmem s e) (r : Rect s) (w : r.shape.Idx → Elt F e) (f : m.view.ty.Contents (Elt F)) : m.view.ty.Contents (Elt F) :=
  (m.access r).write (Elt F) f w Finset.univ

/-! ## The ring -/

set_option backward.proofsInPublic true in
/-- The device `k` places to the left. -/
def back (d : Dev nD) (k : ℕ) : Dev nD := ⟨(d.val + 16 - k % 16) % 16, Nat.mod_lt _ (by decide)⟩
set_option backward.proofsInPublic true in
/-- The right neighbour. -/
def nxt (d : Dev nD) : Dev nD := ⟨(d.val + 1) % 16, Nat.mod_lt _ (by decide)⟩
set_option backward.proofsInPublic true in
/-- The left neighbour. -/
def prv (d : Dev nD) : Dev nD := ⟨(d.val + 15) % 16, Nat.mod_lt _ (by decide)⟩

theorem prv_nxt (d : Dev nD) : prv (nxt d) = d := by revert d; decide
theorem nxt_prv (d : Dev nD) : nxt (prv d) = d := by revert d; decide
theorem nxt_ne_prv (d : Dev nD) : nxt d ≠ prv d := by revert d; decide
theorem back_zero (d : Dev nD) : back d 0 = d := by revert d; decide
theorem back_nxt (d : Dev nD) : ∀ k : Fin 15, back (nxt d) (k.val + 1) = back d k.val := by revert d; decide
theorem back_15 (d : Dev nD) : back d 15 = nxt d := by revert d; decide
theorem back_prv (d : Dev nD) : ∀ k : Fin 15, back (prv d) k.val = back d (k.val + 1) := by revert d; decide

/-! ## The tile loop -/

abbrev rQ (t : Fin k0_t1_loop.trips) (h : Fin 8) : Rect S2048x1024 := Rect.unit (s := S2048x1024) (tq t h) S128x128.size (tq_inb t h)
abbrev rM (t : Fin k0_t1_loop.trips) (h : Fin 8) : Rect S2048x16 := Rect.unit (s := S2048x16) (tm t h) S128x1.size (tm_inb t h)
abbrev rL (t : Fin k0_t1_loop.trips) (h : Fin 8) : Rect S2048x16 := Rect.unit (s := S2048x16) (tl t h) S128x1.size (tl_inb t h)
abbrev rHead (h : Fin 8) : Rect S2048x8x128 := Rect.unit (s := S2048x8x128) ![0, h.val, 0] S2048x1x128.size (inbHead h)

variable (I : Ins F)

/-- The device's queries, in bf16. -/
def qOf (d : Dev nD) : Ct F cc0_scratch0 := k0_pay55 (I.x d) (I.wq d)
/-- A tile's queries of a head, the head's keys, its values. -/
def qT (d : Dev nD) (t : Fin k0_t1_loop.trips) (h : Fin 8) : Vec F S128x128 .bf16 := rd mQ (rQ t h) (qOf I d)
def kT (d : Dev nD) (h : Fin 8) : Vec F S2048x1x128 .bf16 := rd mK (rHead h) (I.k d)
def vT (d : Dev nD) (h : Fin 8) : Vec F S2048x1x128 .bf16 := rd mV (rHead h) (I.v d)
/-- A tile's row maxima, row sums and outputs of a head, over the device's keys. -/
def mT (d : Dev nD) (t : Fin k0_t1_loop.trips) (h : Fin 8) : Vec F S128x1 .f32 := k0_pay6 (maskOf d t) (qT I d t h) (kT I d h)
def lT (d : Dev nD) (t : Fin k0_t1_loop.trips) (h : Fin 8) : Vec F S128x1 .f32 := k0_pay7 (maskOf d t) (qT I d t h) (kT I d h)
def oT (d : Dev nD) (t : Fin k0_t1_loop.trips) (h : Fin 8) : Vec F S128x128 .f32 := k0_pay8 (maskOf d t) (qT I d t h) (kT I d h) (vT I d h)

/-- What a head's stores of a trip leave in the maxima and sums, and in the outputs. -/
def headML (d : Dev nD) (t : Fin k0_t1_loop.trips) (f : Ct F cc0_scratch1) (h : Fin 8) : Ct F cc0_scratch1 :=
  wr mML (rL t h) (lT I d t h) (wr mML (rM t h) (mT I d t h) f)
def headO (d : Dev nD) (t : Fin k0_t1_loop.trips) (f : Ct F cc0_scratch2) (h : Fin 8) : Ct F cc0_scratch2 :=
  wr mO (rQ t h) (oT I d t h) f

/-- The eight heads, in order. -/
abbrev heads : List (Fin 8) := [0, 1, 2, 3, 4, 5, 6, 7]

theorem trips_eq : k0_t1_loop.trips = 16 := by decide

/-- A row's tile. -/
def tileOf (r : ℕ) (h : r < 2048) : Fin k0_t1_loop.trips := ⟨r / 128, by rw [trips_eq]; omega⟩

/-- What the tile loop leaves: row `r`'s maximum of head `c` at column `c`, its sum at column `8 + c`. -/
def locMLat (d : Dev nD) (r : Fin 2048) (c : Fin 16) : Elt F .f32 :=
  if h : c.val < 8 then mT I d (tileOf r.val r.isLt) ⟨c.val, h⟩ (ix2 ⟨r.val % 128, Nat.mod_lt _ (by decide)⟩ ⟨0, by decide⟩)
  else lT I d (tileOf r.val r.isLt) ⟨c.val - 8, by omega⟩ (ix2 ⟨r.val % 128, Nat.mod_lt _ (by decide)⟩ ⟨0, by decide⟩)
def locML (d : Dev nD) : Ct F cc0_scratch1 := fun i => locMLat I d (i 0) (i 1)
/-- and its outputs of head `c / 128` at column `c`. -/
def locOat (d : Dev nD) (r : Fin 2048) (c : Fin 1024) : Elt F .f32 :=
  oT I d (tileOf r.val r.isLt) ⟨c.val / 128, by omega⟩ (ix2 ⟨r.val % 128, Nat.mod_lt _ (by decide)⟩ ⟨c.val % 128, Nat.mod_lt _ (by decide)⟩)
def locO (d : Dev nD) : Ct F cc0_scratch2 := fun i => locOat I d (i 0) (i 1)

omit [FloatOps F] [Named F] in
/-- A store through a unit-stride rectangle of a whole buffer, read at an index. -/
theorem wr_unit {n0 n1 : ℕ} {e : EltTy} {b : Ref sig .tc} (v : View sig .tc .vmem ⟨2, ![n0, n1]⟩ e) (f : v.ty.Contents (Elt F))
    {off off' : Fin 2 → ℕ} (h : off = off') {size : Fin 2 → ℕ} (inb : ∀ a : Fin 2, off a + size a ≤ (⟨2, ![n0, n1]⟩ : Shape).size a)
    (w : (Rect.unit (s := ⟨2, ![n0, n1]⟩) off size inb).shape.Idx → Elt F e) (y : (⟨2, ![n0, n1]⟩ : Shape).Idx) :
    (∀ x : (⟨2, size⟩ : Shape).Idx, (∀ a, (y a).val = off' a + (x a).val) →
      v.read (Elt F) ((v.slice (Rect.unit off size inb)).write (Elt F) f w Finset.univ) y = w x)
    ∧ ((∃ a, (y a).val < off' a ∨ off' a + size a ≤ (y a).val) →
      v.read (Elt F) ((v.slice (Rect.unit off size inb)).write (Elt F) f w Finset.univ) y = v.read (Elt F) f y) := by
  subst h
  constructor
  · intro x hx
    have hy : (Rect.unit (s := ⟨2, ![n0, n1]⟩) off size inb).emb x = y := funext fun a => Fin.ext (by
      show off a + 1 * (x a).val = (y a).val
      rw [hx a, Nat.one_mul])
    rw [← hy]
    exact View.read_slice_write_emb _ f w (Finset.mem_univ x)
  · rintro ⟨a, ha⟩
    refine View.read_slice_write_of_not_mem _ f w _ fun hm => ?_
    obtain ⟨x, -, hx⟩ := Finset.mem_map.mp hm
    have h1 : off a + 1 * (x a).val = (y a).val := congrArg (fun j : (⟨2, ![n0, n1]⟩ : Shape).Idx => (j a).val) hx
    have h2 : (x a).val < size a := (x a).isLt
    omega

omit [FloatOps F] [Named F] in
/-- The same by coordinates: the payload inside the rectangle, the old contents outside. -/
theorem wr_in {n0 n1 : ℕ} {e : EltTy} (v : View sig .tc .vmem ⟨2, ![n0, n1]⟩ e) (f : v.ty.Contents (Elt F))
    {off : Fin 2 → ℕ} {o0 o1 s0 s1 : ℕ} (h : off = ![o0, o1]) (inb : ∀ a : Fin 2, off a + (![s0, s1] : Fin 2 → ℕ) a ≤ (⟨2, ![n0, n1]⟩ : Shape).size a)
    (w : (⟨2, ![s0, s1]⟩ : Shape).Idx → Elt F e) (r : Fin n0) (c : Fin n1) (r' : Fin s0) (c' : Fin s1) (hr : r.val = o0 + r'.val) (hc : c.val = o1 + c'.val) :
    v.read (Elt F) ((v.slice (Rect.unit off ![s0, s1] inb)).write (Elt F) f w Finset.univ) (ix2 r c) = w (ix2 r' c') :=
  (wr_unit (b := cc0_scratch0) v f h inb w (ix2 r c)).1 (ix2 r' c') (Fin.forall_fin_two.2 ⟨hr, hc⟩)
omit [FloatOps F] [Named F] in
theorem wr_out {n0 n1 : ℕ} {e : EltTy} (v : View sig .tc .vmem ⟨2, ![n0, n1]⟩ e) (f : v.ty.Contents (Elt F))
    {off : Fin 2 → ℕ} {o0 o1 s0 s1 : ℕ} (h : off = ![o0, o1]) (inb : ∀ a : Fin 2, off a + (![s0, s1] : Fin 2 → ℕ) a ≤ (⟨2, ![n0, n1]⟩ : Shape).size a)
    (w : (⟨2, ![s0, s1]⟩ : Shape).Idx → Elt F e) (r : Fin n0) (c : Fin n1) (hrc : (r.val < o0 ∨ o0 + s0 ≤ r.val) ∨ (c.val < o1 ∨ o1 + s1 ≤ c.val)) :
    v.read (Elt F) ((v.slice (Rect.unit off ![s0, s1] inb)).write (Elt F) f w Finset.univ) (ix2 r c) = v.read (Elt F) f (ix2 r c) :=
  (wr_unit (b := cc0_scratch0) v f h inb w (ix2 r c)).2 (hrc.elim (fun h => ⟨0, h⟩) (fun h => ⟨1, h⟩))

omit [FloatOps F] [Named F] in
/-- A whole buffer's contents are what its memref reads. -/
theorem rd_ml (f : Ct F cc0_scratch1) : mML.view.read (Elt F) f = f := rfl
omit [FloatOps F] [Named F] in
theorem rd_o (f : Ct F cc0_scratch2) : mO.view.read (Elt F) f = f := rfl
omit [FloatOps F] [Named F] in
theorem rd_out (f : Ct F cc0_stg5_0) : mOut.view.read (Elt F) f = f := rfl

theorem tq_eq (t : Fin k0_t1_loop.trips) (h : Fin 8) : tq t h = ![128 * t.val, 128 * h.val] := by
  fin_cases h
  exacts [k0_off1_eq t, k0_off4_eq t, k0_off7_eq t, k0_off10_eq t, k0_off13_eq t, k0_off16_eq t, k0_off19_eq t, k0_off22_eq t]
theorem tm_eq (t : Fin k0_t1_loop.trips) (h : Fin 8) : tm t h = ![128 * t.val, h.val] := by
  fin_cases h
  exacts [k0_off2_eq t, k0_off5_eq t, k0_off8_eq t, k0_off11_eq t, k0_off14_eq t, k0_off17_eq t, k0_off20_eq t, k0_off23_eq t]
theorem tl_eq (t : Fin k0_t1_loop.trips) (h : Fin 8) : tl t h = ![128 * t.val, 8 + h.val] := by
  fin_cases h
  exacts [k0_off3_eq t, k0_off6_eq t, k0_off9_eq t, k0_off12_eq t, k0_off15_eq t, k0_off18_eq t, k0_off21_eq t, k0_off24_eq t]

/-- The maxima and sums, and the outputs, agree with what the loop leaves on the tiles before `t` and on the first `n`
    heads of tile `t`. -/
def AgML (d : Dev nD) (t n : ℕ) (f : Ct F cc0_scratch1) : Prop :=
  ∀ (r : Fin 2048) (c : Fin 16), (r.val / 128 < t ∨ r.val / 128 = t ∧ c.val % 8 < n) → f (ix2 r c) = locML I d (ix2 r c)
def AgO (d : Dev nD) (t n : ℕ) (f : Ct F cc0_scratch2) : Prop :=
  ∀ (r : Fin 2048) (c : Fin 1024), (r.val / 128 < t ∨ r.val / 128 = t ∧ c.val / 128 < n) → f (ix2 r c) = locO I d (ix2 r c)

theorem AgML.head {d : Dev nD} {t : Fin k0_t1_loop.trips} {h : Fin 8} {f : Ct F cc0_scratch1} (H : AgML I d t.val h.val f) :
    AgML I d t.val (h.val + 1) (headML I d t f h) := by
  intro r c hrc
  have hl := fun g => wr_in (n0 := 2048) (n1 := 16) (s0 := 128) (s1 := 1) mML.view g (tl_eq t h) (tl_inb t h) (lT I d t h) r c
  have hl' := fun g => wr_out (n0 := 2048) (n1 := 16) (s0 := 128) (s1 := 1) mML.view g (tl_eq t h) (tl_inb t h) (lT I d t h) r c
  have hm := fun g => wr_in (n0 := 2048) (n1 := 16) (s0 := 128) (s1 := 1) mML.view g (tm_eq t h) (tm_inb t h) (mT I d t h) r c
  have hm' := fun g => wr_out (n0 := 2048) (n1 := 16) (s0 := 128) (s1 := 1) mML.view g (tm_eq t h) (tm_inb t h) (mT I d t h) r c
  refine (congrFun (rd_ml _) _).symm.trans ?_
  by_cases h1 : r.val / 128 = t.val
  · have htt : tileOf r.val r.isLt = t := Fin.ext h1
    by_cases h2 : c.val = 8 + h.val
    · refine (hl _ ⟨r.val % 128, Nat.mod_lt _ (by decide)⟩ ⟨0, by decide⟩ (by dsimp only; omega) (by dsimp only; omega)).trans ?_
      show _ = locMLat I d r c
      unfold locMLat
      rw [dif_neg (show ¬ c.val < 8 by omega), htt]
      congr 1; exact Fin.ext (by dsimp only; omega)
    · by_cases h3 : c.val = h.val
      · refine (hl' _ (.inr (by omega))).trans ((hm _ ⟨r.val % 128, Nat.mod_lt _ (by decide)⟩ ⟨0, by decide⟩ (by dsimp only; omega) (by dsimp only; omega)).trans ?_)
        show _ = locMLat I d r c
        unfold locMLat
        rw [dif_pos (show c.val < 8 by omega), htt]
        congr 1; exact Fin.ext (by dsimp only; omega)
      · exact (hl' _ (.inr (by omega))).trans ((hm' _ (.inr (by omega))).trans ((congrFun (rd_ml _) _).trans (H r c (by omega))))
  · exact (hl' _ (.inl (by omega))).trans ((hm' _ (.inl (by omega))).trans ((congrFun (rd_ml _) _).trans (H r c (by omega))))

theorem AgO.head {d : Dev nD} {t : Fin k0_t1_loop.trips} {h : Fin 8} {f : Ct F cc0_scratch2} (H : AgO I d t.val h.val f) :
    AgO I d t.val (h.val + 1) (headO I d t f h) := by
  intro r c hrc
  have ho := wr_in (n0 := 2048) (n1 := 1024) (s0 := 128) (s1 := 128) mO.view f (tq_eq t h) (tq_inb t h) (oT I d t h) r c
  have ho' := wr_out (n0 := 2048) (n1 := 1024) (s0 := 128) (s1 := 128) mO.view f (tq_eq t h) (tq_inb t h) (oT I d t h) r c
  refine (congrFun (rd_o _) _).symm.trans ?_
  by_cases h1 : r.val / 128 = t.val
  · have htt : tileOf r.val r.isLt = t := Fin.ext h1
    by_cases h2 : c.val / 128 = h.val
    · refine (ho ⟨r.val % 128, Nat.mod_lt _ (by decide)⟩ ⟨c.val % 128, Nat.mod_lt _ (by decide)⟩ (by dsimp only; omega) (by dsimp only; omega)).trans ?_
      show _ = locOat I d r c
      unfold locOat
      rw [htt]; congr 1; exact Fin.ext h2.symm
    · exact (ho' (.inr (by omega))).trans ((congrFun (rd_o _) _).trans (H r c (by omega)))
  · exact (ho' (.inl (by omega))).trans ((congrFun (rd_o _) _).trans (H r c (by omega)))

theorem AgML.next {d : Dev nD} {t : ℕ} {f : Ct F cc0_scratch1} (H : AgML I d t 8 f) : AgML I d (t + 1) 0 f :=
  fun r c h => H r c (by omega)
theorem AgO.next {d : Dev nD} {t : ℕ} {f : Ct F cc0_scratch2} (H : AgO I d t 8 f) : AgO I d (t + 1) 0 f :=
  fun r c h => H r c (by omega)
theorem AgML.start {d : Dev nD} (f : Ct F cc0_scratch1) : AgML I d 0 0 f := fun r c h => by omega
theorem AgO.start {d : Dev nD} (f : Ct F cc0_scratch2) : AgO I d 0 0 f := fun r c h => by omega
theorem AgML.done {d : Dev nD} {f : Ct F cc0_scratch1} (H : AgML I d 16 0 f) : f = locML I d := by
  funext i
  rw [eq_ix2 (n0 := 2048) (n1 := 16) i]
  exact H _ _ (.inl (by have := idx2_lt0 (n0 := 2048) (n1 := 16) i; omega))
theorem AgO.done {d : Dev nD} {f : Ct F cc0_scratch2} (H : AgO I d 16 0 f) : f = locO I d := by
  funext i
  rw [eq_ix2 (n0 := 2048) (n1 := 1024) i]
  exact H _ _ (.inl (by have := idx2_lt0 (n0 := 2048) (n1 := 1024) i; omega))

/-! ## The reduce-scatter -/

abbrev r25 (d : Dev nD) (k : Fin 15) : Rect S2048x1024 := Rect.unit (s := S2048x1024) (k0_off25 d (BitVec.ofNat 32 k.val)) S128x1024.size (k0_off25_inb d k)
abbrev r27 (d : Dev nD) (k : Fin 15) : Rect S2048x16 := Rect.unit (s := S2048x16) (k0_off27 d (BitVec.ofNat 32 k.val)) S128x16.size (k0_off27_inb d k)
abbrev r28 (d : Dev nD) (k : Fin 15) : Rect S2048x16 := Rect.unit (s := S2048x16) (k0_off28 d (BitVec.ofNat 32 k.val)) S128x8.size (k0_off28_inb d k)
abbrev r29 (d : Dev nD) (k : Fin 15) : Rect S2048x16 := Rect.unit (s := S2048x16) (k0_off29 d (BitVec.ofNat 32 k.val)) S128x8.size (k0_off29_inb d k)
abbrev rHo (d : Dev nD) (k : Fin 15) (h : Fin 8) : Rect S2048x1024 := Rect.unit (s := S2048x1024) (ho d (BitVec.ofNat 32 k.val) h) S128x128.size (ho_inb d k h)
abbrev rSlabML (k : Fin 15) : Rect S15x128x16 := Rect.unit (s := S15x128x16) ![k.val, 0, 0] S1x128x16.size (inbRML k)
abbrev rSlabO (k : Fin 15) : Rect S15x128x1024 := Rect.unit (s := S15x128x1024) ![k.val, 0, 0] S1x128x1024.size (inbRO k)

/-- The state of the reduction on a device: maxima and sums, outputs. -/
abbrev Red (F : FTy → Type) := Ct F cc0_scratch1 × Ct F cc0_scratch2

/-- What a device sends at a hop: the rows of its maxima and sums, those of its outputs in bf16. -/
def sML (d : Dev nD) (k : Fin 15) (f : Ct F cc0_scratch1) : Vec F S128x16 .f32 := (rowsML d k).view.read (Elt F) f
def sO (d : Dev nD) (k : Fin 15) (g : Ct F cc0_scratch2) : Vec F S128x1024 .bf16 := k0_pay63 (rd mO (r25 d k) g)

/-- What landed, as a load of the slab reads it. -/
def upML (v : Vec F S128x16 .f32) : Vec F S1x128x16 .f32 := fun i => v ((Shape.reshapeEquiv squeezes_S1x128x16_S128x16.numel_eq).symm i)
def upO (v : Vec F S128x1024 .bf16) : Vec F S1x128x1024 .bf16 := fun i => v ((Shape.reshapeEquiv squeezes_S1x128x1024_S128x1024.numel_eq).symm i)

omit [FloatOps F] [Named F] in
theorem rd_slabML {k : Fin 15} {f : Ct F cc0_scratch4} {v : Vec F S128x16 .f32} (h : (slabML k).view.read (Elt F) f = v) :
    rd mRML (rSlabML k) f = upML v := by
  subst h
  funext i
  show f ((rSlabML k).emb i) = f ((rSlabML k).emb (Shape.reshapeEquiv _ ((Shape.reshapeEquiv _).symm i)))
  rw [Equiv.apply_symm_apply]
omit [FloatOps F] [Named F] in
theorem rd_slabO {k : Fin 15} {f : Ct F cc0_scratch5} {v : Vec F S128x1024 .bf16} (h : (slabO k).view.read (Elt F) f = v) :
    rd mRO (rSlabO k) f = upO v := by
  subst h
  funext i
  show f ((rSlabO k).emb i) = f ((rSlabO k).emb (Shape.reshapeEquiv _ ((Shape.reshapeEquiv _).symm i)))
  rw [Equiv.apply_symm_apply]

/-- A hop's merge of the maxima and sums, with the landed rows `y`; -/
def mergeML (d : Dev nD) (k : Fin 15) (y : Vec F S1x128x16 .f32) (f : Ct F cc0_scratch1) : Ct F cc0_scratch1 :=
  wr mML (r29 d k) (k0_pay72 (k0_pay71 (rd mML (r27 d k) f) y)) (wr mML (r28 d k) (k0_pay70 (rd mML (r27 d k) f) y) f)
/-- of one head's outputs, with the scales `a`, `b` and the landed rows `r`; -/
def hopO (d : Dev nD) (k : Fin 15) (a b : FVec F S128x8 .f32) (r : Vec F S1x128x1024 .bf16) (g : Ct F cc0_scratch2) (h : Fin 8) : Ct F cc0_scratch2 :=
  wr mO (rHo d k h) (hopPay a b (rd mO (rHo d k h) g) r h) g
/-- of all the heads'. -/
def mergeO (d : Dev nD) (k : Fin 15) (y : Vec F S1x128x16 .f32) (r : Vec F S1x128x1024 .bf16) (f : Ct F cc0_scratch1) (g : Ct F cc0_scratch2) : Ct F cc0_scratch2 :=
  heads.foldl (hopO d k (k0_pay68 (rd mML (r27 d k) f) y) (k0_pay69 (rd mML (r27 d k) f) y) r) g

/-- The states after `k` hops: each merges what the left neighbour sends of its own state. -/
def St : ℕ → Dev nD → Red F
  | 0 => fun d => (locML I d, locO I d)
  | k + 1 => fun d => if h : k < 15 then
      (mergeML d ⟨k, h⟩ (upML (sML (prv d) ⟨k, h⟩ (St k (prv d)).1)) (St k d).1,
       mergeO d ⟨k, h⟩ (upML (sML (prv d) ⟨k, h⟩ (St k (prv d)).1)) (upO (sO (prv d) ⟨k, h⟩ (St k (prv d)).2)) (St k d).1 (St k d).2)
    else St k d

theorem St_succ (k : Fin 15) (d : Dev nD) : St I (k.val + 1) d =
      (mergeML d k (upML (sML (prv d) k (St I k.val (prv d)).1)) (St I k.val d).1,
       mergeO d k (upML (sML (prv d) k (St I k.val (prv d)).1)) (upO (sO (prv d) k (St I k.val (prv d)).2)) (St I k.val d).1 (St I k.val d).2) := by
  show (if h : k.val < 15 then _ else _) = _
  rw [dif_pos k.isLt]

/-! ## The contexts, the output -/

abbrev r38 (d : Dev nD) : Rect S2048x16 := Rect.unit (s := S2048x16) (k0_off38 d) S128x8.size (k0_off38_inb d)
abbrev rMo (d : Dev nD) (h : Fin 8) : Rect S2048x1024 := Rect.unit (s := S2048x1024) (mo d h) S128x128.size (mo_inb d h)
abbrev rTile (t : Fin 4) : Rect S2048x1024 := Rect.unit (s := S2048x1024) ![512 * t.val, 0] S512x1024.size (inbTile t)

/-- One head's store of the division. -/
def midQ (d : Dev nD) (l : Vec F S128x8 .f32) (g : Ct F cc0_scratch2) (q : Ct F cc0_scratch0) (h : Fin 8) : Ct F cc0_scratch0 :=
  wr mQ (rMo d h) (midPay l (rd mO (rMo d h) g) h) q
/-- A device's contexts of its own rows, over its queries. -/
def ctxF (d : Dev nD) : Ct F cc0_scratch0 := heads.foldl (midQ d (rd mML (r38 d) (St I 15 d).1) (St I 15 d).2) (qOf I d)
/-- The gathered contexts: every row is its owner's. -/
def cat : Ct F cc0_scratch0 := fun i => ctxF I ⟨(show Fin 2048 from i 0).val / 128, by have := (show Fin 2048 from i 0).isLt; show _ < 16; omega⟩ i
/-- The output of a device. -/
def outAt (d : Dev nD) (r : Fin 2048) (c : Fin 1024) : Elt F .f32 :=
  k0_pay1 (rd mQ (rTile ⟨r.val / 512, by omega⟩) (cat I)) (I.wo d) (ix2 ⟨r.val % 512, Nat.mod_lt _ (by decide)⟩ c)
def outF (d : Dev nD) : Ct F cc0_stg5_0 := fun i => outAt I d (i 0) (i 1)

/-- One tile's store of the output. -/
def tileOut (d : Dev nD) (f : Ct F cc0_stg5_0) (t : Fin 4) : Ct F cc0_stg5_0 := wr mOut (rTile t) (k0_pay1 (rd mQ (rTile t) (cat I)) (I.wo d)) f

/-- The output's stores of its first `n` tiles are in. -/
def AgOut (d : Dev nD) (n : ℕ) (f : Ct F cc0_stg5_0) : Prop :=
  ∀ (r : Fin 2048) (c : Fin 1024), r.val / 512 < n → f (ix2 r c) = outF I d (ix2 r c)

omit [FloatOps F] [Named F] in
theorem wr_tile_in (f : Ct F cc0_stg5_0) (t : Fin 4) (w : Vec F S512x1024 .f32) (r : Fin 2048) (c : Fin 1024) (h1 : r.val / 512 = t.val) :
    wr mOut (rTile t) w f (ix2 r c) = w (ix2 ⟨r.val % 512, Nat.mod_lt _ (by decide)⟩ c) := by
  have h := wr_in (n0 := 2048) (n1 := 1024) (o0 := 512 * t.val) (o1 := 0) (s0 := 512) (s1 := 1024) mOut.view f rfl (inbTile t) w r c
    ⟨r.val % 512, Nat.mod_lt _ (by decide)⟩ c (by dsimp only; omega) (by omega)
  exact (congrFun (rd_out _) _).symm.trans h
omit [FloatOps F] [Named F] in
theorem wr_tile_out (f : Ct F cc0_stg5_0) (t : Fin 4) (w : Vec F S512x1024 .f32) (r : Fin 2048) (c : Fin 1024) (h1 : ¬ r.val / 512 = t.val) :
    wr mOut (rTile t) w f (ix2 r c) = f (ix2 r c) := by
  have h := wr_out (n0 := 2048) (n1 := 1024) (o0 := 512 * t.val) (o1 := 0) (s0 := 512) (s1 := 1024) mOut.view f rfl (inbTile t) w r c
    (.inl (by omega))
  exact (congrFun (rd_out _) _).symm.trans (h.trans (congrFun (rd_out _) _))

theorem AgOut.tile {d : Dev nD} {t : Fin 4} {f : Ct F cc0_stg5_0} (H : AgOut I d t.val f) : AgOut I d (t.val + 1) (tileOut I d f t) := by
  intro r c hrc
  unfold tileOut
  by_cases h1 : r.val / 512 = t.val
  · rw [wr_tile_in _ _ _ _ _ h1]
    have ht : (⟨r.val / 512, by omega⟩ : Fin 4) = t := Fin.ext h1
    show _ = outAt I d r c
    unfold outAt
    rw [ht]
  · rw [wr_tile_out _ _ _ _ _ h1]
    exact H r c (by omega)
theorem AgOut.start {d : Dev nD} (f : Ct F cc0_stg5_0) : AgOut I d 0 f := fun r c h => by omega
theorem AgOut.done {d : Dev nD} {f : Ct F cc0_stg5_0} (H : AgOut I d 4 f) : f = outF I d := by
  funext i
  rw [eq_ix2 (n0 := 2048) (n1 := 1024) i]
  exact H _ _ (by have := idx2_lt0 (n0 := 2048) (n1 := 1024) i; omega)

end Cert.KernelIdeal.Gen.Attn

end
-- ==== Proof.Proto.lean ====
/- The protocol of the ring: the cells of the barrier and of the six families of transfer semaphores, what each landing
   hands over, the order in which the cells are waited on, what a device owes. -/
module

public import proofs.«01_k».proof.Proof.Vals
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Gen.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources: the pipeline's copy and the ring's, its duties named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier's semaphore. -/
abbrev barS : Sem sig := (SemArray.scalar (sig.barrier 0 rfl) : Sems sig S_).sem

/-- The families of transfer semaphores: maxima and sums (sent, received), outputs (sent, received), contexts (sent,
    received). -/
abbrev fam : Fin 6 → DmaSems sig S15
  | 0 => cc0_scratch6 | 1 => cc0_scratch7 | 2 => cc0_scratch8 | 3 => cc0_scratch9 | 4 => cc0_scratch10 | 5 => cc0_scratch11

/-- A cell of a device: its barrier, or a family's semaphore of a hop. -/
abbrev CIdx := Option (Fin 6 × Fin 15)
abbrev csem : CIdx → SemLoc sig
  | none => .reg barS
  | some (a, k) => .dma (semOf (fam a) k)
abbrev kcell (ci : Dev nD × CIdx) : GSem nD τ sig := ((ci.1 : Thread nD τ), csem ci.2)
abbrev barC (d : Dev nD) : GSem nD τ sig := kcell (d, none)
abbrev xfC (d : Dev nD) (a : Fin 6) (k : Fin 15) : GSem nD τ sig := kcell (d, some (a, k))

/-- Which cell a semaphore is. -/
def kd : SemLoc sig → Option CIdx
  | .reg s => if s = barS then some none else none
  | .dma q => if h : 6 ≤ q.val ∧ q.val < 96 then some (some (⟨(q.val - 6) / 15, by omega⟩, ⟨(q.val - 6) % 15, Nat.mod_lt _ (by decide)⟩)) else none

set_option maxRecDepth 100000 in
theorem kd_xf : ∀ (a : Fin 6) (k : Fin 15), kd (.dma (semOf (fam a) k)) = some (some (a, k)) := by decide
theorem kd_csem : ∀ i : CIdx, kd (csem i) = some i
  | none => by show kd (.reg barS) = _; unfold kd; exact if_pos rfl
  | some (a, k) => kd_xf a k
theorem csem_inj : Function.Injective csem := fun i j h => by
  have := kd_csem i; rw [h, kd_csem] at this; exact (Option.some.inj this).symm
theorem kcell_inj : Function.Injective kcell := fun i j h => by
  have h1 : i.1 = j.1 := congrArg (fun g : GSem nD τ sig => g.1.1) h
  have h2 : i.2 = j.2 := csem_inj (congrArg (fun g : GSem nD τ sig => g.2) h)
  exact Prod.ext h1 h2

/-! ## Rows of the contexts -/

/-- The rows of device `e`'s chunk. -/
def RS (e : Dev nD) : Finset S2048x1024.Idx := Finset.univ.filter fun i => (show Fin 2048 from i 0).val / 128 = e.val

omit [FloatOps F] [Named F] in
theorem mem_RS {e : Dev nD} {i : S2048x1024.Idx} : i ∈ RS e ↔ (show Fin 2048 from i 0).val / 128 = e.val := by
  unfold RS; rw [Finset.mem_filter]; exact and_iff_right (Finset.mem_univ _)

theorem rowsQ_set (d : Dev nD) (k : Fin 15) : (rowsQ d k).view.set = RS (back d k.val) := by
  show ((View.whole cc0_scratch0).slice _).set = _
  rw [View.set_slice_whole]
  ext i
  rw [mem_RS, Rect.mem_set_unit]
  have h0 := (show Fin 2048 from i 0).isLt
  have h1 := (show Fin 1024 from i 1).isLt
  have hd := d.isLt
  have hk := k.isLt
  have hb : (back d k.val).val = (d.val + 16 - k.val % 16) % 16 := rfl
  have e0 : k0_off47 d (BitVec.ofNat 32 k.val) 0 = 128 * ((d.val + 16 - k.val) % 16) := congrFun (k0_off47_eq d k) 0
  have e1 : k0_off47 d (BitVec.ofNat 32 k.val) 1 = 0 := congrFun (k0_off47_eq d k) 1
  rw [hb]
  constructor
  · intro h
    have := h 0
    change k0_off47 d (BitVec.ofNat 32 k.val) 0 ≤ (show Fin 2048 from i 0).val ∧ (show Fin 2048 from i 0).val < k0_off47 d (BitVec.ofNat 32 k.val) 0 + 128 at this
    omega
  · intro h
    refine Fin.forall_fin_two.2 ⟨?_, ?_⟩
    · change k0_off47 d (BitVec.ofNat 32 k.val) 0 ≤ (show Fin 2048 from i 0).val ∧ (show Fin 2048 from i 0).val < k0_off47 d (BitVec.ofNat 32 k.val) 0 + 128
      omega
    · change k0_off47 d (BitVec.ofNat 32 k.val) 1 ≤ (show Fin 1024 from i 1).val ∧ (show Fin 1024 from i 1).val < k0_off47 d (BitVec.ofNat 32 k.val) 1 + 1024
      omega

/-! ## Payloads -/

variable (I : Ins F)

/-- A device's slabs of a hop, at any contents. -/
def anyML (e : Dev nD) (k : Fin 15) : sProp 𝕄 :=
  iprop(∃ f, (slabML k).view.loc (e : Thread nD τ) ↦[(slabML k).view.set]{fullShare} f)
def anyO (e : Dev nD) (k : Fin 15) : sProp 𝕄 :=
  iprop(∃ f, (slabO k).view.loc (e : Thread nD τ) ↦[(slabO k).view.set]{fullShare} f)
/-- A device's queries off its own rows, at any contents. -/
def qrest (e : Dev nD) : sProp 𝕄 :=
  iprop(∃ f, (e : Thread nD τ).loc cc0_scratch0 ↦[Finset.univ \ RS e]{fullShare} f)
/-- Rows of a device's context buffer, holding the gathered contexts. -/
def catRows (d e : Dev nD) : sProp 𝕄 :=
  iprop((d : Thread nD τ).loc cc0_scratch0 ↦[RS e]{fullShare} cat I)

/-- What a device's right neighbour hands it at the barrier: its slabs. -/
def barPay (d : Dev nD) : sProp 𝕄 := bigSep Finset.univ fun k : Fin 15 => iprop(anyML (nxt d) k ∗ anyO (nxt d) k)
/-- What comes back when the maxima and sums are sent; -/
def pay0 (d : Dev nD) (k : Fin 15) : sProp 𝕄 :=
  iprop((rowsML d k).view.loc (d : Thread nD τ) ↦[(rowsML d k).view.set]{fullShare} (St I k.val d).1)
/-- what lands of them; -/
def pay1 (d : Dev nD) (k : Fin 15) : sProp 𝕄 :=
  iprop(∃ f, ⌜(slabML k).view.read (Elt F) f = sML (prv d) k (St I k.val (prv d)).1⌝ ∗ (slabML k).view.loc (d : Thread nD τ) ↦[(slabML k).view.set]{fullShare} f)
/-- what comes back when the outputs are sent; -/
def pay2 (d : Dev nD) : sProp 𝕄 := iprop(∃ f, mSO.view.loc (d : Thread nD τ) ↦[mSO.view.set]{fullShare} f)
instance anyML_storable (e : Dev nD) (k : Fin 15) : BI.Storable (upEmb : UEmb _ 𝕄) (anyML (F := F) e k) := by unfold anyML; infer_instance
instance anyO_storable (e : Dev nD) (k : Fin 15) : BI.Storable (upEmb : UEmb _ 𝕄) (anyO (F := F) e k) := by unfold anyO; infer_instance
instance qrest_storable (e : Dev nD) : BI.Storable (upEmb : UEmb _ 𝕄) (qrest (F := F) e) := by unfold qrest; infer_instance
instance catRows_storable (d e : Dev nD) : BI.Storable (upEmb : UEmb _ 𝕄) (catRows I d e) := by unfold catRows; infer_instance
instance pay1_storable (d : Dev nD) (k : Fin 15) : BI.Storable (upEmb : UEmb _ 𝕄) (pay1 I d k) := by unfold pay1; infer_instance
instance barPay_storable (d : Dev nD) : BI.Storable (upEmb : UEmb _ 𝕄) (barPay (F := F) d) := by unfold barPay; infer_instance
/-- The landed outputs. -/
def landO (d : Dev nD) (k : Fin 15) : sProp 𝕄 :=
  iprop(∃ f, ⌜(slabO k).view.read (Elt F) f = sO (prv d) k (St I k.val (prv d)).2⌝ ∗ (slabO k).view.loc (d : Thread nD τ) ↦[(slabO k).view.set]{fullShare} f)
instance landO_storable (d : Dev nD) (k : Fin 15) : BI.Storable (upEmb : UEmb _ 𝕄) (landO I d k) := by unfold landO; infer_instance
/-- What lands of the outputs, and with it the buffer of queries that goes round. -/
def pay3 (d : Dev nD) (k : Fin 15) : sProp 𝕄 := iprop(landO I d k ∗ qrest (back d (k.val + 1)))

/-- The payload of a cell's duty. -/
def payS (d : Dev nD) : Option CIdx → Bool → sProp 𝕄
  | none, _ => iprop(emp)
  | some none, b => if b then barPay d else iprop(emp)
  | some (some (a, k)), _ => match a with
    | 0 => pay0 I d k | 1 => pay1 I d k | 2 => pay2 d | 3 => pay3 I d k
    | 4 => catRows I d (back d k.val) | 5 => catRows I d (back d (k.val + 1))

instance payS_storable (d : Dev nD) (i : Option CIdx) (b : Bool) : BI.Storable (upEmb : UEmb _ 𝕄) (payS I d i b) := by
  rcases i with _ | _ | ⟨a, k⟩
  · show BI.Storable upEmb iprop(emp); infer_instance
  · show BI.Storable upEmb (if b then barPay d else iprop(emp))
    split <;> infer_instance
  · fin_cases a
    · show BI.Storable upEmb (pay0 I d k); unfold pay0; infer_instance
    · show BI.Storable upEmb (pay1 I d k); infer_instance
    · show BI.Storable upEmb (pay2 d); unfold pay2; infer_instance
    · show BI.Storable upEmb (pay3 I d k); unfold pay3; infer_instance
    · show BI.Storable upEmb (catRows I d (back d k.val)); infer_instance
    · show BI.Storable upEmb (catRows I d (back d (k.val + 1))); infer_instance

/-- A family's credit. -/
abbrev amtF : Fin 6 → ℕ
  | 0 => (slabML 0).view.dmaCredit | 1 => (slabML 0).view.dmaCredit
  | 2 => (slabO 0).view.dmaCredit | 3 => (slabO 0).view.dmaCredit
  | 4 => (rowsQ 0 0).view.dmaCredit | 5 => (rowsQ 0 0).view.dmaCredit
theorem amtF_pos : ∀ a, 0 < amtF a
  | 0 => View.dmaCredit_pos _ (by decide) | 1 => View.dmaCredit_pos _ (by decide) | 2 => View.dmaCredit_pos _ (by decide)
  | 3 => View.dmaCredit_pos _ (by decide) | 4 => View.dmaCredit_pos _ (by decide) | 5 => View.dmaCredit_pos _ (by decide)

def amtS : Option CIdx → ℕ
  | some (some (a, _)) => amtF a
  | _ => 1
def dutS : Option CIdx → Finset Bool
  | none => ∅
  | some none => Finset.univ
  | some (some _) => {false}

/-- One round: the barrier has the duties of both neighbours, one unit each; a transfer's cell the duty of its credit. -/
def Rd : Rounds.Schedule (GSem nD τ sig) Bool 𝕄 where
  duties g r := if r = 0 ∧ g.1.2 = .tc then dutS (kd g.2) else ∅
  unitless _ := False
  amount g _ _ := amtS (kd g.2)
  payload g _ b := payS I g.1.1 (kd g.2) b
  amount_pos g _ _ _ := by
    show 0 < amtS (kd g.2)
    rcases kd g.2 with _ | _ | ⟨a, k⟩
    · exact Nat.one_pos
    · exact Nat.one_pos
    · exact amtF_pos a

instance Rd_payload_storable (g : GSem nD τ sig) (r : ℕ) (b : Bool) : BI.Storable (upEmb : UEmb _ 𝕄) ((Rd I).payload g r b) :=
  payS_storable I g.1.1 (kd g.2) b

section Sched
variable (d : Dev nD)

theorem duties_cell (i : CIdx) : (Rd I).duties (kcell (d, i)) 0 = dutS (some i) := by
  dsimp only [Rd]; rw [if_pos ⟨rfl, rfl⟩, kd_csem]
theorem duties_later (g : GSem nD τ sig) : ∀ r, 1 ≤ r → (Rd I).duties g r = ∅ :=
  fun r hr => by dsimp only [Rd]; rw [if_neg fun h => by omega]
theorem amount_cell (i : CIdx) (b : Bool) : (Rd I).amount (kcell (d, i)) 0 b = amtS (some i) := by
  dsimp only [Rd]; rw [kd_csem]
theorem payload_cell (i : CIdx) (b : Bool) : (Rd I).payload (kcell (d, i)) 0 b = payS I d (some i) b := by
  dsimp only [Rd]; rw [kd_csem]

theorem expect_bar : (Rd I).expect (barC d) 0 = 2 := by
  unfold Schedule.expect Schedule.amountOf
  rw [duties_cell, Finset.sum_congr rfl fun b _ => amount_cell I d none b]
  rfl
theorem expect_xf (a : Fin 6) (k : Fin 15) : (Rd I).expect (xfC d a k) 0 = amtF a := by
  unfold Schedule.expect Schedule.amountOf
  rw [duties_cell, Finset.sum_congr rfl fun b _ => amount_cell I d (some (a, k)) b]
  exact Finset.sum_singleton _ _

theorem rest_bar : bigSep ((Rd I).duties (barC d) 0 \ ∅) (fun b => (Rd I).payload (barC d) 0 b) = iprop(emp ∗ barPay d) := by
  rw [Finset.sdiff_empty, duties_cell]
  show bigSep Finset.univ _ = _
  rw [bigSep_univ_eq_bigSepL [false, true] (by decide) (by decide), bigSepL_cons_cons, bigSepL_singleton, payload_cell, payload_cell]
  rfl
theorem rest_xf (a : Fin 6) (k : Fin 15) :
    bigSep ((Rd I).duties (xfC d a k) 0 \ ∅) (fun b => (Rd I).payload (xfC d a k) 0 b) = payS I d (some (some (a, k))) false := by
  rw [Finset.sdiff_empty, duties_cell]
  show bigSep {false} _ = _
  rw [bigSep_singleton, payload_cell]

end Sched

/-! ## What a device owes; the levels -/

/-- The all-gather's last `n` landings on the right neighbour; -/
def oAG (d : Dev nD) : (n : ℕ) → CellTallies nD τ sig Unit
  | 0 => 0
  | n + 1 => oAG d n + tallyAt (xfC (nxt d) 5 (Fin.ofNat 15 (14 - n))) () (amtF 5)
/-- and the reduce-scatter's last `n` hops' before them; -/
def oRS (d : Dev nD) : (n : ℕ) → CellTallies nD τ sig Unit
  | 0 => oAG d 15
  | n + 1 => oRS d n + tallyAt (xfC (nxt d) 3 (Fin.ofNat 15 (14 - n))) () (amtF 3) + tallyAt (xfC (nxt d) 1 (Fin.ofNat 15 (14 - n))) () (amtF 1)
/-- and the barrier's units before those. -/
def O₀ (d : Dev nD) : CellTallies nD τ sig Unit := oRS d 15 + tallyAt (barC (nxt d)) () 1 + tallyAt (barC (prv d)) () 1

theorem oRS_step (d : Dev nD) (k : Fin 15) :
    oRS d (15 - k.val) = oRS d (15 - (k.val + 1)) + tallyAt (xfC (nxt d) 3 k) () (amtF 3) + tallyAt (xfC (nxt d) 1 k) () (amtF 1) := by
  have h : 15 - k.val = (15 - (k.val + 1)) + 1 := by omega
  have hk : Fin.ofNat 15 (14 - (15 - (k.val + 1))) = k := Fin.ext (by show (14 - (15 - (k.val + 1))) % 15 = _; omega)
  rw [h]
  show oRS d _ + _ + _ = _
  rw [hk]
theorem oAG_step (d : Dev nD) (k : Fin 15) :
    oAG d (15 - k.val) = oAG d (15 - (k.val + 1)) + tallyAt (xfC (nxt d) 5 k) () (amtF 5) := by
  have h : 15 - k.val = (15 - (k.val + 1)) + 1 := by omega
  have hk : Fin.ofNat 15 (14 - (15 - (k.val + 1))) = k := Fin.ext (by show (14 - (15 - (k.val + 1))) % 15 = _; omega)
  rw [h]
  show oAG d _ + _ = _
  rw [hk]

def L (g : GSem nD τ sig) : Finset Unit := if g.1.2 = .tc then {()} else ∅
def lvS : Option CIdx → ℕ
  | none => 0
  | some none => 1
  | some (some (a, k)) => match a with
    | 1 => 2 + k.val | 3 => 2 + k.val | 5 => 17 + k.val | _ => 0
/-- The barrier below the landings of the hops in order, the all-gather's after the reduce-scatter's; the rest at 0. -/
def lv (g : GSem nD τ sig) (_ : Unit) : ℕ := lvS (kd g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (d : Dev nD) (i : CIdx) (u : Unit) : lv (kcell (d, i)) u = lvS (some i) := by unfold lv; rw [kd_csem]

/-- A tally above a cut: everything it owes is owed to tensor-core cells of higher levels. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O : CellTallies nD τ sig Unit} (h : Above n O) {d : Dev nD} {i : CIdx} {k : ℕ} (hi : n < lvS (some i)) :
    Above n (O + tallyAt (kcell (d, i)) () k) := fun g u hg => by
  rw [Pi.add_apply, Finsupp.add_apply, tallyAt_apply] at hg
  by_cases hc : g = kcell (d, i) ∧ u = ()
  · rw [hc.1]; exact ⟨rfl, by rw [lv_cell]; exact hi⟩
  · rw [if_neg hc, add_zero] at hg; exact h g u hg

theorem above_oAG (d : Dev nD) : ∀ n, n ≤ 15 → Above (31 - n) (oAG d n)
  | 0, _ => Above.zero _
  | n + 1, h => by
    refine Above.add (fun g u hg => ?_) (i := some (5, Fin.ofNat 15 (14 - n))) ?_
    · have := above_oAG d n (by omega) g u hg; exact ⟨this.1, by omega⟩
    · show 31 - (n + 1) < 17 + (14 - n) % 15; omega
theorem above_oRS (d : Dev nD) : ∀ n, n ≤ 15 → Above (16 - n) (oRS d n)
  | 0, _ => fun g u hg => by have := above_oAG d 15 le_rfl g u hg; exact ⟨this.1, by omega⟩
  | n + 1, h => by
    refine Above.add (Above.add (fun g u hg => ?_) (i := some (3, Fin.ofNat 15 (14 - n))) ?_) (i := some (1, Fin.ofNat 15 (14 - n))) ?_
    · have := above_oRS d n (by omega) g u hg; exact ⟨this.1, by omega⟩
    · show 16 - (n + 1) < 2 + (14 - n) % 15; omega
    · show 16 - (n + 1) < 2 + (14 - n) % 15; omega
theorem above_O₀ (d : Dev nD) : Above 0 (O₀ d) := by
  refine Above.add (Above.add (fun g u hg => ?_) (i := none) ?_) (i := none) ?_
  · have := above_oRS d 15 le_rfl g u hg; exact ⟨this.1, by omega⟩
  · exact Nat.one_pos
  · exact Nat.one_pos

/-- A device may wait on a semaphore no higher than everything it owes. -/
theorem mayWait_of (c : Dev nD) (sm : SemLoc sig) {n : ℕ} (hs : lvS (kd sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## Hops done and to come -/

def upFrom (k : ℕ) : Finset (Fin 15) := Finset.univ.filter fun j => k ≤ j.val
def downTo (k : ℕ) : Finset (Fin 15) := Finset.univ.filter fun j => j.val < k

theorem upFrom_zero : upFrom 0 = Finset.univ := by decide
theorem upFrom_15 : upFrom 15 = ∅ := by decide
theorem downTo_zero : downTo 0 = ∅ := by decide
theorem downTo_15 : downTo 15 = Finset.univ := by decide
theorem upFrom_step (k : Fin 15) (Φ : Fin 15 → sProp 𝕄) : bigSep (upFrom k.val) Φ = iprop(Φ k ∗ bigSep (upFrom (k.val + 1)) Φ) := by
  have h : upFrom k.val = insert k (upFrom (k.val + 1)) := by revert k; decide
  rw [h, bigSep_insert (by revert k; decide)]; rfl
theorem downTo_step (k : Fin 15) (Φ : Fin 15 → sProp 𝕄) : bigSep (downTo (k.val + 1)) Φ = iprop(Φ k ∗ bigSep (downTo k.val) Φ) := by
  have h : downTo (k.val + 1) = insert k (downTo k.val) := by revert k; decide
  rw [h, bigSep_insert (by revert k; decide)]; rfl

end Cert.KernelIdeal.Gen.Attn

end
-- ==== Proof.Steps.lean ====
/- The body's segments that talk to nobody, executed: a head of the tile loop, the loop, a hop's merge, the division,
   the output projection. Each is stated with its continuation. -/
module

public import proofs.«01_k».proof.Proof.Proto

@[expose] public section

set_option maxRecDepth 16384

noncomputable section

namespace Cert.KernelIdeal.Gen.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- A program run on a device, to a postcondition. -/
abbrev WP {α : Type} (d : Dev nD) (p : Prog (TpuEff nD τ sig (Elt F) Λ₀ .tc) α) (Q : α → sProp 𝕄) : sProp 𝕄 :=
  wp frame (wpE (defs₀ (F := F)) 𝒱₀ (d : Thread nD τ) none) Set.univ p Q

/-- A whole buffer of a device. -/
abbrev pt (d : Dev nD) (b : Ref sig .tc) (f : Buf (Elt F) ((d : Thread nD τ).loc b)) : sProp 𝕄 :=
  ((d : Thread nD τ).loc b) ↦{fullShare} f

variable (I : Ins F)

/-! ## The tile loop -/

/-- The loop's state: what it reads, and the buffers it fills as far as head `n` of tile `t`. -/
def TL (d : Dev nD) (t n : ℕ) : sProp 𝕄 :=
  iprop(pt d cc0_scratch0 (qOf I d) ∗ pt d cc0_stg2_0 (I.k d) ∗ pt d cc0_stg3_0 (I.v d)
    ∗ (∃ f, ⌜AgML I d t n f⌝ ∗ pt d cc0_scratch1 f) ∗ (∃ g, ⌜AgO I d t n g⌝ ∗ pt d cc0_scratch2 g))

theorem wp_tileHead (d : Dev nD) (t : Fin k0_t1_loop.trips) (h : Fin 8) (K : Pg F) (Q : PUnit → sProp 𝕄) :
    iprop(TL I d t.val h.val ∗ (TL I d t.val (h.val + 1) -∗ WP d K Q)) ⊢ WP d (tileHead t (maskOf d t) h K) Q := by
  unfold TL tileHead
  iintro ⟨⟨Hq, Hk, Hv, ⟨%f, %hf, Hml⟩, ⟨%g, %hg, Ho⟩⟩, HK⟩
  iapply (wp_load 𝒱₀ (d : Thread nD τ) none Set.univ (m := mQ) (Finset.subset_univ _)) $$ Hq; iintro Hq
  iapply (wp_load 𝒱₀ (d : Thread nD τ) none Set.univ (m := mK) (Finset.subset_univ _)) $$ Hk; iintro Hk
  iapply (wp_load 𝒱₀ (d : Thread nD τ) none Set.univ (m := mV) (Finset.subset_univ _)) $$ Hv; iintro Hv
  iapply (wp_load 𝒱₀ (d : Thread nD τ) none Set.univ (m := mML) (Finset.subset_univ _)) $$ Hml; iintro Hml
  iapply (wp_store 𝒱₀ (d : Thread nD τ) none Set.univ (m := mML) (r := rM t h) (Mk := Finset.univ) (Finset.subset_univ _)) $$ Hml; iintro Hml
  iapply (wp_load 𝒱₀ (d : Thread nD τ) none Set.univ (m := mML) (Finset.subset_univ _)) $$ Hml; iintro Hml
  iapply (wp_store 𝒱₀ (d : Thread nD τ) none Set.univ (m := mML) (r := rL t h) (Mk := Finset.univ) (Finset.subset_univ _)) $$ Hml; iintro Hml
  iapply (wp_load 𝒱₀ (d : Thread nD τ) none Set.univ (m := mO) (Finset.subset_univ _)) $$ Ho; iintro Ho
  iapply (wp_store 𝒱₀ (d : Thread nD τ) none Set.univ (m := mO) (r := rQ t h) (Mk := Finset.univ) (Finset.subset_univ _)) $$ Ho; iintro Ho
  iapply HK
  isplitl [Hq]; · iexact Hq
  isplitl [Hk]; · iexact Hk
  isplitl [Hv]; · iexact Hv
  isplitl [Hml]
  · iexists headML I d t f h
    isplitr; · ipureintro; exact hf.head
    iexact Hml
  · iexists headO I d t g h
    isplitr; · ipureintro; exact hg.head
    iexact Ho

theorem TL_next (d : Dev nD) (t : ℕ) : TL I d t 8 ⊢ TL I d (t + 1) 0 := by
  unfold TL
  iintro ⟨Hq, Hk, Hv, ⟨%f, %hf, Hml⟩, ⟨%g, %hg, Ho⟩⟩
  isplitl [Hq]; · iexact Hq
  isplitl [Hk]; · iexact Hk
  isplitl [Hv]; · iexact Hv
  isplitl [Hml]
  · iexists f
    isplitr; · ipureintro; exact hf.next
    iexact Hml
  · iexists g
    isplitr; · ipureintro; exact hg.next
    iexact Ho

/-- A trip. -/
theorem wp_trip (d : Dev nD) (t : Fin k0_t1_loop.trips) :
    TL I d t.val 0 ⊢ WP d (trip t (maskOf d t)) (fun _ => TL I d (t.val + 1) 0) := by
  unfold trip
  iintro H
  iapply (wp_tileHead I d t 0); isplitl [H]; · iexact H
  iintro H
  iapply (wp_tileHead I d t 1); isplitl [H]; · iexact H
  iintro H
  iapply (wp_tileHead I d t 2); isplitl [H]; · iexact H
  iintro H
  iapply (wp_tileHead I d t 3); isplitl [H]; · iexact H
  iintro H
  iapply (wp_tileHead I d t 4); isplitl [H]; · iexact H
  iintro H
  iapply (wp_tileHead I d t 5); isplitl [H]; · iexact H
  iintro H
  iapply (wp_tileHead I d t 6); isplitl [H]; · iexact H
  iintro H
  iapply (wp_tileHead I d t 7); isplitl [H]; · iexact H
  iintro H
  unfold WP
  rw [wp_ret]; imodintro
  iapply (TL_next I d t.val); iexact H

/-- The loop, from any contents of the buffers it fills. -/
theorem wp_tiles (d : Dev nD) (f : Buf (Elt F) ((d : Thread nD τ).loc cc0_scratch1)) (g : Buf (Elt F) ((d : Thread nD τ).loc cc0_scratch2))
    (K : Unit → Pg F) (Q : PUnit → sProp 𝕄) :
    iprop((pt d cc0_scratch0 (qOf I d) ∗ pt d cc0_stg2_0 (I.k d) ∗ pt d cc0_stg3_0 (I.v d) ∗ pt d cc0_scratch1 f ∗ pt d cc0_scratch2 g)
        ∗ ((pt d cc0_scratch0 (qOf I d) ∗ pt d cc0_stg2_0 (I.k d) ∗ pt d cc0_stg3_0 (I.v d) ∗ pt d cc0_scratch1 (locML I d) ∗ pt d cc0_scratch2 (locO I d)) -∗ WP d (K ⟨⟩) Q))
      ⊢ WP d ((tiles d).bind K) Q := by
  show _ ⊢ wp frame (wpE (defs₀ (F := F)) 𝒱₀ (d : Thread nD τ) none) Set.univ (tiles (F := F) d >>= K) Q
  rw [wp_bind]
  unfold tiles
  iintro ⟨⟨Hq, Hk, Hv, Hml, Ho⟩, HK⟩
  iapply (Scf.wp_for frame (wpE (defs₀ (F := F)) 𝒱₀ (d : Thread nD τ) none) Set.univ _ _ _ k0_t1_ok ⟨⟩ (fun t _ => trip (F := F) t (maskOf d t))
    (fun t _ => TL I d t 0) (fun t _ => wp_trip I d t))
  isplitl [Hq Hk Hv Hml Ho]
  · unfold TL
    isplitl [Hq]; · iexact Hq
    isplitl [Hk]; · iexact Hk
    isplitl [Hv]; · iexact Hv
    isplitl [Hml]
    · iexists f
      isplitr; · ipureintro; exact AgML.start I f
      iexact Hml
    · iexists g
      isplitr; · ipureintro; exact AgO.start I g
      iexact Ho
  iintro %_ H
  rw [show Scf.trips k0_t1_loop.lb k0_t1_loop.ub k0_t1_loop.st = 16 from trips_eq]
  unfold TL
  icases H with ⟨Hq, Hk, Hv, ⟨%f', %hf, Hml⟩, ⟨%g', %hg, Ho⟩⟩
  obtain rfl := hf.done
  obtain rfl := hg.done
  iapply HK
  isplitl [Hq]; · iexact Hq
  isplitl [Hk]; · iexact Hk
  isplitl [Hv]; · iexact Hv
  isplitl [Hml]; · iexact Hml
  iexact Ho

/-! ## A hop's merge -/

omit [FloatOps F] [Named F] in
theorem slabO_on (k : Fin 15) : mRO.view.setOn (rSlabO k).toLoadRect.set ⊆ (slabO k).view.set := by
  have h : (slabO k).view.set = (mRO.view.slice (rSlabO k)).set := View.set_reshape _ _
  rw [h, View.set_slice]; exact Finset.Subset.refl _
omit [FloatOps F] [Named F] in
theorem slabML_on (k : Fin 15) : mRML.view.setOn (rSlabML k).toLoadRect.set ⊆ (slabML k).view.set := by
  have h : (slabML k).view.set = (mRML.view.slice (rSlabML k)).set := View.set_reshape _ _
  rw [h, View.set_slice]; exact Finset.Subset.refl _

/-- A device's slabs at given contents. -/
abbrev ptSO (d : Dev nD) (k : Fin 15) (f : Buf (Elt F) ((slabO k).view.loc (d : Thread nD τ))) : sProp 𝕄 :=
  (slabO k).view.loc (d : Thread nD τ) ↦[(slabO k).view.set]{fullShare} f
abbrev ptSML (d : Dev nD) (k : Fin 15) (f : Buf (Elt F) ((slabML k).view.loc (d : Thread nD τ))) : sProp 𝕄 :=
  (slabML k).view.loc (d : Thread nD τ) ↦[(slabML k).view.set]{fullShare} f

/-- One head of the merge, the landed outputs in the slab. -/
theorem wp_hopHead (d : Dev nD) (k : Fin 15) (a b : FVec F S128x8 .f32) (h : Fin 8)
    (fr : Buf (Elt F) ((slabO k).view.loc (d : Thread nD τ))) (r : Vec F S1x128x1024 .bf16) (hr : rd mRO (rSlabO k) fr = r)
    (g : Ct F cc0_scratch2) (K : Pg F) (Q : PUnit → sProp 𝕄) :
    iprop((pt d cc0_scratch2 g ∗ ptSO d k fr) ∗ ((pt d cc0_scratch2 (hopO d k a b r g h) ∗ ptSO d k fr) -∗ WP d K Q))
      ⊢ WP d (hopHead d k a b h K) Q := by
  subst hr
  unfold hopHead
  iintro ⟨⟨Ho, Hr⟩, HK⟩
  iapply (wp_load 𝒱₀ (d : Thread nD τ) none Set.univ (m := mO) (Finset.subset_univ _)) $$ Ho; iintro Ho
  iapply (wp_load 𝒱₀ (d : Thread nD τ) none Set.univ (m := mRO) (r := (rSlabO k).toLoadRect) (S := (slabO k).view.set) (slabO_on k)) $$ Hr; iintro Hr
  iapply (wp_load 𝒱₀ (d : Thread nD τ) none Set.univ (m := mO) (Finset.subset_univ _)) $$ Ho; iintro Ho
  iapply (wp_store 𝒱₀ (d : Thread nD τ) none Set.univ (m := mO) (r := rHo d k h) (Mk := Finset.univ) (Finset.subset_univ _)) $$ Ho; iintro Ho
  iapply HK
  isplitl [Ho]; · iexact Ho
  iexact Hr

/-- The eight heads of the merge. -/
theorem wp_hopHeads (d : Dev nD) (k : Fin 15) (a b : FVec F S128x8 .f32)
    (fr : Buf (Elt F) ((slabO k).view.loc (d : Thread nD τ))) (r : Vec F S1x128x1024 .bf16) (hr : rd mRO (rSlabO k) fr = r)
    (g : Ct F cc0_scratch2) (K : Pg F) (Q : PUnit → sProp 𝕄) :
    iprop((pt d cc0_scratch2 g ∗ ptSO d k fr) ∗ ((pt d cc0_scratch2 (heads.foldl (hopO d k a b r) g) ∗ ptSO d k fr) -∗ WP d K Q))
      ⊢ WP d (hopHead d k a b 0 <| hopHead d k a b 1 <| hopHead d k a b 2 <| hopHead d k a b 3 <|
          hopHead d k a b 4 <| hopHead d k a b 5 <| hopHead d k a b 6 <| hopHead d k a b 7 K) Q := by
  simp only [heads, List.foldl_cons, List.foldl_nil]
  iintro ⟨H, HK⟩
  iapply (wp_hopHead d k _ _ 0 fr r hr g); isplitl [H]; · iexact H
  iintro H
  iapply (wp_hopHead d k _ _ 1 fr r hr _); isplitl [H]; · iexact H
  iintro H
  iapply (wp_hopHead d k _ _ 2 fr r hr _); isplitl [H]; · iexact H
  iintro H
  iapply (wp_hopHead d k _ _ 3 fr r hr _); isplitl [H]; · iexact H
  iintro H
  iapply (wp_hopHead d k _ _ 4 fr r hr _); isplitl [H]; · iexact H
  iintro H
  iapply (wp_hopHead d k _ _ 5 fr r hr _); isplitl [H]; · iexact H
  iintro H
  iapply (wp_hopHead d k _ _ 6 fr r hr _); isplitl [H]; · iexact H
  iintro H
  iapply (wp_hopHead d k _ _ 7 fr r hr _); isplitl [H]; · iexact H
  iintro H
  iapply HK
  iexact H

/-- The merge: the running state and the two slabs to the merged state, the slabs as they were. -/
theorem wp_hopMerge (d : Dev nD) (k : Fin 15)
    (fm : Buf (Elt F) ((slabML k).view.loc (d : Thread nD τ))) (y : Vec F S1x128x16 .f32) (hy : rd mRML (rSlabML k) fm = y)
    (fr : Buf (Elt F) ((slabO k).view.loc (d : Thread nD τ))) (r : Vec F S1x128x1024 .bf16) (hr : rd mRO (rSlabO k) fr = r)
    (f : Ct F cc0_scratch1) (g : Ct F cc0_scratch2) (K : Pg F) (Q : PUnit → sProp 𝕄) :
    iprop((pt d cc0_scratch1 f ∗ pt d cc0_scratch2 g ∗ ptSML d k fm ∗ ptSO d k fr)
        ∗ ((pt d cc0_scratch1 (mergeML d k y f) ∗ pt d cc0_scratch2 (mergeO d k y r f g) ∗ ptSML d k fm ∗ ptSO d k fr) -∗ WP d K Q))
      ⊢ WP d (hopMerge d k K) Q := by
  subst hy
  unfold hopMerge
  iintro ⟨⟨Hml, Ho, Hrm, Hr⟩, HK⟩
  iapply (wp_load 𝒱₀ (d : Thread nD τ) none Set.univ (m := mML) (Finset.subset_univ _)) $$ Hml; iintro Hml
  iapply (wp_load 𝒱₀ (d : Thread nD τ) none Set.univ (m := mRML) (r := (rSlabML k).toLoadRect) (S := (slabML k).view.set) (slabML_on k)) $$ Hrm; iintro Hrm
  iapply (wp_load 𝒱₀ (d : Thread nD τ) none Set.univ (m := mML) (Finset.subset_univ _)) $$ Hml; iintro Hml
  iapply (wp_store 𝒱₀ (d : Thread nD τ) none Set.univ (m := mML) (r := r28 d k) (Mk := Finset.univ) (Finset.subset_univ _)) $$ Hml; iintro Hml
  iapply (wp_load 𝒱₀ (d : Thread nD τ) none Set.univ (m := mML) (Finset.subset_univ _)) $$ Hml; iintro Hml
  iapply (wp_store 𝒱₀ (d : Thread nD τ) none Set.univ (m := mML) (r := r29 d k) (Mk := Finset.univ) (Finset.subset_univ _)) $$ Hml; iintro Hml
  iapply (wp_hopHeads d k _ _ fr r hr g); isplitl [Ho Hr]; · (isplitl [Ho] <;> iassumption)
  iintro ⟨Ho, Hr⟩
  iapply HK
  isplitl [Hml]; · iexact Hml
  isplitl [Ho]; · iexact Ho
  isplitl [Hrm]; · iexact Hrm
  iexact Hr

/-! ## The division -/

theorem mo_eq (d : Dev nD) (h : Fin 8) : mo d h = ![128 * d.val, 128 * h.val] := by
  fin_cases h
  exacts [k0_off39_eq d, k0_off40_eq d, k0_off41_eq d, k0_off42_eq d, k0_off43_eq d, k0_off44_eq d, k0_off45_eq d, k0_off46_eq d]

theorem rMo_set (d : Dev nD) (h : Fin 8) : mQ.view.setOn (rMo d h).set ⊆ RS d := by
  have hs : mQ.view.setOn (rMo d h).set = (rMo d h).set :=
    (View.set_slice mQ.view (rMo d h)).symm.trans (View.set_slice_whole cc0_scratch0 (rMo d h))
  rw [hs]
  intro i hi
  rw [Rect.mem_set_unit] at hi
  have h0 := hi 0
  have e0 : mo d h 0 = 128 * d.val := congrFun (mo_eq d h) 0
  change mo d h 0 ≤ (show Fin 2048 from i 0).val ∧ (show Fin 2048 from i 0).val < mo d h 0 + 128 at h0
  rw [mem_RS]
  omega

/-- A device's own rows of contexts. -/
abbrev ptRS (d : Dev nD) (q : Buf (Elt F) ((d : Thread nD τ).loc cc0_scratch0)) : sProp 𝕄 :=
  (d : Thread nD τ).loc cc0_scratch0 ↦[RS d]{fullShare} q

theorem wp_midHead (d : Dev nD) (l : Vec F S128x8 .f32) (h : Fin 8) (g : Ct F cc0_scratch2) (q : Ct F cc0_scratch0) (K : Pg F) (Q : PUnit → sProp 𝕄) :
    iprop((pt d cc0_scratch2 g ∗ ptRS d q) ∗ ((pt d cc0_scratch2 g ∗ ptRS d (midQ d l g q h)) -∗ WP d K Q))
      ⊢ WP d (midHead d l h K) Q := by
  unfold midHead
  iintro ⟨⟨Ho, Hq⟩, HK⟩
  iapply (wp_load 𝒱₀ (d : Thread nD τ) none Set.univ (m := mO) (Finset.subset_univ _)) $$ Ho; iintro Ho
  iapply (wp_load 𝒱₀ (d : Thread nD τ) none Set.univ (m := mQ) (r := (rMo d h).toLoadRect) (S := RS d) (rMo_set d h)) $$ Hq; iintro Hq
  iapply (wp_store 𝒱₀ (d : Thread nD τ) none Set.univ (m := mQ) (r := rMo d h) (Mk := Finset.univ) (S := RS d)
    (by
      show (mQ.view.slice (rMo d h)).set ⊆ RS d
      rw [View.set_slice]; exact rMo_set d h)) $$ Hq; iintro Hq
  iapply HK
  isplitl [Ho]; · iexact Ho
  iexact Hq

theorem cat_own (d : Dev nD) : ptRS (F := F) d (ctxF I d) = catRows I d d := by
  unfold catRows
  refine pointsTo_congr fun i hi => ?_
  rw [mem_RS] at hi
  show _ = ctxF I _ i
  congr 1
  exact Fin.ext hi.symm

/-- The division, from the reduced state to the contexts of the device's own rows. -/
theorem wp_mid (d : Dev nD) (K : Pg F) (Q : PUnit → sProp 𝕄) :
    iprop((pt d cc0_scratch1 (St I 15 d).1 ∗ pt d cc0_scratch2 (St I 15 d).2 ∗ ptRS d (qOf I d))
        ∗ ((pt d cc0_scratch1 (St I 15 d).1 ∗ pt d cc0_scratch2 (St I 15 d).2 ∗ catRows I d d) -∗ WP d K Q))
      ⊢ WP d (mid d K) Q := by
  unfold mid
  iintro ⟨⟨Hml, Ho, Hq⟩, HK⟩
  iapply (wp_load 𝒱₀ (d : Thread nD τ) none Set.univ (m := mML) (Finset.subset_univ _)) $$ Hml; iintro Hml
  iapply (wp_midHead d _ 0 _ (qOf I d)); isplitl [Ho Hq]; · (isplitl [Ho] <;> iassumption)
  iintro H
  iapply (wp_midHead d _ 1 _ _); isplitl [H]; · iexact H
  iintro H
  iapply (wp_midHead d _ 2 _ _); isplitl [H]; · iexact H
  iintro H
  iapply (wp_midHead d _ 3 _ _); isplitl [H]; · iexact H
  iintro H
  iapply (wp_midHead d _ 4 _ _); isplitl [H]; · iexact H
  iintro H
  iapply (wp_midHead d _ 5 _ _); isplitl [H]; · iexact H
  iintro H
  iapply (wp_midHead d _ 6 _ _); isplitl [H]; · iexact H
  iintro H
  iapply (wp_midHead d _ 7 _ _); isplitl [H]; · iexact H
  iintro ⟨Ho, Hq⟩
  iapply HK
  isplitl [Hml]; · iexact Hml
  isplitl [Ho]; · iexact Ho
  iapply (Entails.of_eq (cat_own I d)); iexact Hq

/-! ## The output projection -/

omit [FloatOps F] [Named F] in
theorem hz2 : (![0, 0] : Fin 2 → Nat) = fun _ => 0 := funext fun a => by fin_cases a <;> rfl

/-- The projection's state: the gathered contexts, the weights, the output as far as tile `n`. -/
def OT (d : Dev nD) (n : ℕ) : sProp 𝕄 :=
  iprop(pt d cc0_scratch0 (cat I) ∗ pt d cc0_stg4_0 (I.wo d) ∗ ∃ f, ⌜AgOut I d n f⌝ ∗ pt d cc0_stg5_0 f)

omit [FloatOps F] [Named F] in
theorem read_wo (f : Ct F cc0_stg4_0) :
    mWo.view.readAt (Elt F) (Rect.unit (s := S1024x1024) ![0, 0] S1024x1024.size inb_S1024x1024_S1024x1024_0_0).toLoadRect f = f :=
  Memref.readAt_unit_zero (Elt F) cc0_stg4_0 hz2 _ f

theorem wp_outTile (d : Dev nD) (t : Fin 4) (K : Pg F) (Q : PUnit → sProp 𝕄) :
    iprop(OT I d t.val ∗ (OT I d (t.val + 1) -∗ WP d K Q)) ⊢ WP d (outTile t K) Q := by
  unfold OT outTile
  iintro ⟨⟨Hq, Hw, ⟨%f, %hf, Hout⟩⟩, HK⟩
  iapply (wp_load 𝒱₀ (d : Thread nD τ) none Set.univ (m := mQ) (Finset.subset_univ _)) $$ Hq; iintro Hq
  iapply (wp_load 𝒱₀ (d : Thread nD τ) none Set.univ (m := mWo) (Finset.subset_univ _)) $$ Hw; iintro Hw
  rw [read_wo]
  iapply (wp_load 𝒱₀ (d : Thread nD τ) none Set.univ (m := mOut) (Finset.subset_univ _)) $$ Hout; iintro Hout
  iapply (wp_store 𝒱₀ (d : Thread nD τ) none Set.univ (m := mOut) (r := rTile t) (Mk := Finset.univ) (Finset.subset_univ _)) $$ Hout; iintro Hout
  iapply HK
  isplitl [Hq]; · iexact Hq
  isplitl [Hw]; · iexact Hw
  iexists tileOut I d f t
  isplitr; · ipureintro; exact hf.tile
  iexact Hout

/-- The projection, from any contents of the output. -/
theorem wp_outProj (d : Dev nD) (f : Buf (Elt F) ((d : Thread nD τ).loc cc0_stg5_0)) (Q : PUnit → sProp 𝕄) :
    iprop((pt d cc0_scratch0 (cat I) ∗ pt d cc0_stg4_0 (I.wo d) ∗ pt d cc0_stg5_0 f)
        ∗ ((pt d cc0_scratch0 (cat I) ∗ pt d cc0_stg4_0 (I.wo d) ∗ pt d cc0_stg5_0 (outF I d)) -∗ Q ⟨⟩))
      ⊢ WP d outProj Q := by
  unfold outProj
  iintro ⟨⟨Hq, Hw, Hout⟩, HK⟩
  iapply (wp_outTile I d 0)
  isplitl [Hq Hw Hout]
  · unfold OT
    isplitl [Hq]; · iexact Hq
    isplitl [Hw]; · iexact Hw
    iexists f
    isplitr; · ipureintro; exact AgOut.start I f
    iexact Hout
  iintro H
  iapply (wp_outTile I d 1); isplitl [H]; · iexact H
  iintro H
  iapply (wp_outTile I d 2); isplitl [H]; · iexact H
  iintro H
  iapply (wp_outTile I d 3); isplitl [H]; · iexact H
  iintro H
  unfold WP
  rw [wp_ret]; imodintro
  unfold OT
  icases H with ⟨Hq, Hw, ⟨%f', %hf, Hout⟩⟩
  obtain rfl := hf.done
  iapply HK
  isplitl [Hq]; · iexact Hq
  isplitl [Hw]; · iexact Hw
  iexact Hout

end Cert.KernelIdeal.Gen.Attn

end
-- ==== Proof.Comm.lean ====
/- The body's segments that talk, executed: a wait on a transfer's cell, a reduce-scatter hop, an all-gather hop. -/
module

public import proofs.«01_k».proof.Proof.Steps

@[expose] public section

set_option maxRecDepth 16384

noncomputable section

namespace Cert.KernelIdeal.Gen.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (N : Dev nD × CIdx → ℕ)

/-! ## The records every device keeps -/

/-- Every cell's invariant, and that its round is reached. -/
def recs : sProp 𝕄 := bigSep Finset.univ fun ci : Dev nD × CIdx => iprop(cellInv ER (Rd I) (N ci) (kcell ci) ∗ reached ER (kcell ci) 0)

instance recs_persistent : BI.Persistent (recs I N) := by unfold recs; infer_instance

theorem recs_at (ci : Dev nD × CIdx) : recs I N ⊢ iprop(cellInv ER (Rd I) (N ci) (kcell ci) ∗ reached ER (kcell ci) 0) := by
  unfold recs; exact bigSep_elim (Finset.mem_univ ci)

/-- What a device's body may use throughout. -/
def ctx : sProp 𝕄 := iprop(recs I N ∗ levAts L lv)
instance ctx_persistent : BI.Persistent (ctx I N) := by unfold ctx; infer_instance

/-! ## A wait on a transfer's cell -/

theorem wp_wait_xf (d : Dev nD) (a : Fin 6) (k : Fin 15) {sp sp' : Space} {s s' : Shape} {e e' : EltTy}
    {src : Memref sig .tc sp' s' e'} {dst : Memref sig .tc sp s e} {hsrc : src.view.WordExact} {hdst : dst.view.WordExact}
    (hc : dst.view.dmaCredit = amtF a) {O : CellTallies nD τ sig Unit} {n : ℕ} (hn : lvS (some (some (a, k))) ≤ n) (hO : Above n O) {W : Waits sig Unit}
    (K : PUnit → Pg F) (Q : PUnit → sProp 𝕄) :
    iprop((ctx I N ∗ cred (tallyAt (xfC d a k) () (amtF a)) ∗ owes (d : Thread nD τ) O W ∗ atPos ER (xfC d a k) 0 ∅ 0)
        ∗ (((∃ W, owes (d : Thread nD τ) O W) ∗ semVal (xfC d a k) 0 ∗ payS I d (some (some (a, k))) false) -∗ WP d (K ⟨⟩) Q))
      ⊢ WP d (.op (.waitDma2 (semOf (fam a) k) src dst hsrc hdst) K) Q := by
  unfold ctx
  iintro ⟨⟨⟨#Hrec, #Hlev⟩, Hc, HO, Hat⟩, HK⟩
  ihave #Hr := (recs_at I N (d, some (a, k))) $$ Hrec
  icases Hr with ⟨#Hinv, -⟩
  iapply (Rounds.wp_wait_rest_token 𝒱₀ ER (Rd I) (d : Thread nD τ) none (κ := N (d, some (a, k)))
      (wpE_waitDma2_eq 𝒱₀ (d : Thread nD τ) none Set.univ) (Set.mem_univ _) () (O := O) (W := W) (R := 0) (m := 0) (T := ∅)
      (by rw [Nat.zero_add, hc]; exact (expect_xf I d a k).symm)) $$ [Hc HO Hat]
  · rw [hc]
    isplitr; · iexact Hinv
    isplitl [Hc]; · iexact Hc
    isplitl [HO]; · iexact HO
    isplitr
    · iapply (mayWait_of d (csem (some (a, k))) (n := n) (by rw [kd_csem]; exact hn) hO); iexact Hlev
    iexact Hat
  iintro ⟨HO, Hat, -, Hpay⟩
  ihave Hp := (Entails.of_eq (rest_xf I d a k)) $$ Hpay
  imod (Rounds.cell_close ER (Rd I) (Set.mem_univ (N (d, some (a, k)))) (fun h => h) (R := 0 + 1) (duties_later I (xfC d a k))) $$ [Hat] with Hz
  · isplitr; · iexact Hinv
    iexact Hat
  iapply HK
  isplitl [HO]; · iexists _; iexact HO
  isplitl [Hz]; · iexact Hz
  iexact Hp

/-! ## A reduce-scatter hop -/

/-- What a hop uses up: the right neighbour's slabs, its cells' positions, duties and credits; -/
def hopRes (d : Dev nD) (k : Fin 15) : sProp 𝕄 :=
  iprop((anyML (nxt d) k ∗ anyO (nxt d) k)
    ∗ (atPos ER (xfC d 0 k) 0 ∅ 0 ∗ atPos ER (xfC d 1 k) 0 ∅ 0 ∗ atPos ER (xfC d 2 k) 0 ∅ 0 ∗ atPos ER (xfC d 3 k) 0 ∅ 0)
    ∗ (dutyTok ER (xfC d 0 k) 0 false ∗ dutyTok ER (xfC (nxt d) 1 k) 0 false ∗ dutyTok ER (xfC d 2 k) 0 false ∗ dutyTok ER (xfC (nxt d) 3 k) 0 false)
    ∗ (cred (tallyAt (xfC d 1 k) () (amtF 1)) ∗ cred (tallyAt (xfC d 3 k) () (amtF 3))))
/-- what it leaves: its own slabs, its cells closed. -/
def hopDone (d : Dev nD) (k : Fin 15) : sProp 𝕄 :=
  iprop((anyML d k ∗ anyO d k) ∗ (semVal (xfC d 0 k) 0 ∗ semVal (xfC d 1 k) 0 ∗ semVal (xfC d 2 k) 0 ∗ semVal (xfC d 3 k) 0))

/-- The reduce-scatter's state before hop `k`. -/
def RSst (d : Dev nD) (k : ℕ) : sProp 𝕄 :=
  iprop(pt d cc0_scratch1 (St I k d).1 ∗ pt d cc0_scratch2 (St I k d).2 ∗ (∃ f, pt d cc0_scratch3 f) ∗ qrest (back d k)
    ∗ bigSep (upFrom k) (hopRes d) ∗ bigSep (downTo k) (hopDone d) ∗ ∃ W, owes (d : Thread nD τ) (oRS d (15 - k)) W)

/-- The copy of the maxima and sums to the right neighbour. -/
theorem wp_send_ml (d n : Dev nD) (hn : n = nxt d) (k : Fin 15) {hsc : (slabML k : Memref sig (Dev.tc n : Thread nD τ).2.kind .vmem S128x16 .f32).view.ref.isScScratch = false}
    {hsrc : (rowsML d k).view.WordExact} {hdst : (slabML k).view.WordExact}
    {hsem : DmaTarget.Typed .vmem (.dma (semOf cc0_scratch7 k)) (.remote (Dev.tc n : Thread nD τ) (slabML k) (.dma (semOf cc0_scratch6 k)) hsc)}
    {K : PUnit → Pg F} {Q : PUnit → sProp 𝕄} (O : CellTallies nD τ sig Unit) (W : Waits sig Unit) :
    iprop((ctx I N ∗ pay0 I d k ∗ anyML (nxt d) k ∗ owes (d : Thread nD τ) (O + tallyAt (xfC (nxt d) 1 k) () (amtF 1)) W
          ∗ dutyTok ER (xfC d 0 k) 0 false ∗ dutyTok ER (xfC (nxt d) 1 k) 0 false)
        ∗ ((cred (tallyAt (xfC d 0 k) () (amtF 0)) ∗ owes (d : Thread nD τ) O W) -∗ WP d (K ⟨⟩) Q))
      ⊢ WP d (.op (.enqueueDma (rowsML d k) (.remote (Dev.tc n : Thread nD τ) (slabML k) (.dma (semOf cc0_scratch6 k)) hsc) (.dma (semOf cc0_scratch7 k)) hsrc hdst hsem) K) Q := by
  subst hn
  unfold ctx pay0 anyML
  iintro ⟨⟨⟨#Hrec, -⟩, Hs, ⟨%fd, Hd⟩, HO, Ht0, Ht1⟩, HK⟩
  ihave #H0 := (recs_at I N (d, some (0, k))) $$ Hrec
  ihave #H1 := (recs_at I N (nxt d, some (1, k))) $$ Hrec
  icases H0 with ⟨#Hi0, #Hr0⟩
  icases H1 with ⟨#Hi1, #Hr1⟩
  iapply (Rounds.wp_send_pointsTo 𝒱₀ ER (Rd I) (d : Thread nD τ) none (κ₁ := N (d, some (0, k))) (κ₂ := N (nxt d, some (1, k)))
    (r₁ := 0) (r₂ := 0) (d₁ := false) (d₂ := false) (fd := fd)
    (by rw [duties_cell I d (some (0, k))]; exact Finset.mem_singleton_self _) (by rw [duties_cell I (nxt d) (some (1, k))]; exact Finset.mem_singleton_self _)
    () () (amtF 1) rfl (amount_cell I d (some (0, k)) false) (amount_cell I (nxt d) (some (1, k)) false) O rfl (W := W)
    (by rw [payload_cell I d (some (0, k))]; exact BI.Entails.refl _)
    (by
      rw [payload_cell I (nxt d) (some (1, k))]
      show _ ⊢ pay1 I (nxt d) k
      unfold pay1
      iintro H
      iexists (slabML k).view.write (Elt F) fd (sML d k (St I k.val d).1) Finset.univ
      isplitr
      · ipureintro
        rw [prv_nxt]
        exact View.read_write_univ _ _
      iexact H)) $$ [Hs Hd HO Ht0 Ht1]
  · isplitr; · iexact Hi0
    isplitr; · iexact Hi1
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro H
  iapply HK
  iexact H

/-- The copy of the outputs to the right neighbour; the queries' buffer goes along. -/
theorem wp_send_o (d n : Dev nD) (hn : n = nxt d) (k : Fin 15) {hsc : (slabO k : Memref sig (Dev.tc n : Thread nD τ).2.kind .vmem S128x1024 .bf16).view.ref.isScScratch = false}
    {hsrc : mSO.view.WordExact} {hdst : (slabO k).view.WordExact}
    {hsem : DmaTarget.Typed .vmem (.dma (semOf cc0_scratch9 k)) (.remote (Dev.tc n : Thread nD τ) (slabO k) (.dma (semOf cc0_scratch8 k)) hsc)}
    {K : PUnit → Pg F} {Q : PUnit → sProp 𝕄} (O : CellTallies nD τ sig Unit) (W : Waits sig Unit) :
    iprop((ctx I N ∗ pt d cc0_scratch3 (sO d k (St I k.val d).2) ∗ anyO (nxt d) k ∗ qrest (back d k.val)
          ∗ owes (d : Thread nD τ) (O + tallyAt (xfC (nxt d) 3 k) () (amtF 3)) W
          ∗ dutyTok ER (xfC d 2 k) 0 false ∗ dutyTok ER (xfC (nxt d) 3 k) 0 false)
        ∗ ((cred (tallyAt (xfC d 2 k) () (amtF 2)) ∗ owes (d : Thread nD τ) O W) -∗ WP d (K ⟨⟩) Q))
      ⊢ WP d (.op (.enqueueDma mSO (.remote (Dev.tc n : Thread nD τ) (slabO k) (.dma (semOf cc0_scratch8 k)) hsc) (.dma (semOf cc0_scratch9 k)) hsrc hdst hsem) K) Q := by
  subst hn
  unfold ctx anyO
  iintro ⟨⟨⟨#Hrec, -⟩, Hs, ⟨%fd, Hd⟩, Hq, HO, Ht0, Ht1⟩, HK⟩
  ihave #H0 := (recs_at I N (d, some (2, k))) $$ Hrec
  ihave #H1 := (recs_at I N (nxt d, some (3, k))) $$ Hrec
  icases H0 with ⟨#Hi0, #Hr0⟩
  icases H1 with ⟨#Hi1, #Hr1⟩
  iapply (Rounds.wp_send_pointsTo_with 𝒱₀ ER (Rd I) (d : Thread nD τ) none (κ₁ := N (d, some (2, k))) (κ₂ := N (nxt d, some (3, k)))
    (r₁ := 0) (r₂ := 0) (d₁ := false) (d₂ := false) (src := mSO) (fs := sO d k (St I k.val d).2) (fd := fd) (F := qrest (back d k.val))
    (by rw [duties_cell I d (some (2, k))]; exact Finset.mem_singleton_self _) (by rw [duties_cell I (nxt d) (some (3, k))]; exact Finset.mem_singleton_self _)
    () () (amtF 3) rfl (amount_cell I d (some (2, k)) false) (amount_cell I (nxt d) (some (3, k)) false) O rfl (W := W)
    (by
      rw [payload_cell I d (some (2, k))]
      show _ ⊢ pay2 d
      unfold pay2
      iintro H
      iexists _
      iexact H)
    (by
      rw [payload_cell I (nxt d) (some (3, k))]
      show _ ⊢ pay3 I (nxt d) k
      unfold pay3 landO
      rw [back_nxt]
      iintro ⟨H, Hq⟩
      isplitl [H]
      · iexists (slabO k).view.write (Elt F) fd (sO d k (St I k.val d).2) Finset.univ
        isplitr
        · ipureintro
          rw [prv_nxt]
          exact View.read_write_univ _ _
        iexact H
      iexact Hq)) $$ [Hs Hd Hq HO Ht0 Ht1]
  · isplitr; · iexact Hi0
    isplitr; · iexact Hi1
    isplitl [Hs]; · rw [View.set_whole]; iexact Hs
    isplitl [Hd Hq]; · (isplitl [Hd] <;> iassumption)
    isplitl [HO]; · iexact HO
    isplitl [Ht0]; · iexact Ht0
    isplitr; · iexact Hr0
    isplitl [Ht1]; · iexact Ht1
    iexact Hr1
  iintro H
  iapply HK
  iexact H

omit [FloatOps F] [Named F] in
theorem write_so (f w : Ct F cc0_scratch3) :
    (mSO.access (Rect.unit (s := S128x1024) ![0, 0] S128x1024.size inb_S128x1024_S128x1024_0_0) : View sig .tc _ _ _).write (Elt F) f w Finset.univ = w :=
  Memref.write_access_unit_zero_univ (Elt F) cc0_scratch3 hz2 _ f w

set_option maxHeartbeats 1600000 in
/-- A hop: from the state before it to the state after it. -/
theorem wp_hop (d n₁ n₂ : Dev nD) (h₁ : n₁ = nxt d) (h₂ : n₂ = nxt d) (k : Fin 15) (K : Pg F) (Q : PUnit → sProp 𝕄) :
    iprop((ctx I N ∗ RSst I d k.val) ∗ (RSst I d (k.val + 1) -∗ WP d K Q)) ⊢ WP d (hop d k n₁ n₂ K) Q := by
  unfold RSst hop hopSend
  rw [upFrom_step, downTo_step, oRS_step]
  iintro ⟨⟨#Hctx, Hml, Ho, ⟨%fso, Hso⟩, Hq, ⟨Hres, Hup⟩, Hdown, ⟨%W, HO⟩⟩, HK⟩
  unfold hopRes
  icases Hres with ⟨⟨HnML, HnO⟩, ⟨Ha0, Ha1, Ha2, Ha3⟩, ⟨Ht0, Ht1, Ht2, Ht3⟩, Hc1, Hc3⟩
  iapply (wp_load 𝒱₀ (d : Thread nD τ) none Set.univ (m := mO) (Finset.subset_univ _)) $$ Ho; iintro Ho
  iapply (wp_load 𝒱₀ (d : Thread nD τ) none Set.univ (m := mSO) (Finset.subset_univ _)) $$ Hso; iintro Hso
  iapply (wp_store 𝒱₀ (d : Thread nD τ) none Set.univ (m := mSO) (r := Rect.unit (s := S128x1024) ![0, 0] S128x1024.size inb_S128x1024_S128x1024_0_0)
    (Mk := Finset.univ) (Finset.subset_univ _)) $$ Hso; iintro Hso
  rw [write_so]
  -- the copies
  ihave Hml := (pointsTo_split_subset (ℓ := (d : Thread nD τ).loc cc0_scratch1) (I := (rowsML d k).view.set) (Finset.subset_univ _)).1 $$ Hml
  icases Hml with ⟨Hrows, Hmlr⟩
  iapply (wp_send_ml I N d n₁ h₁ k (oRS d (15 - (k.val + 1)) + tallyAt (xfC (nxt d) 3 k) () (amtF 3)) W)
  isplitl [Hrows HnML HO Ht0 Ht1]
  · isplitr; · iexact Hctx
    isplitl [Hrows]; · unfold pay0; iexact Hrows
    isplitl [HnML]; · iexact HnML
    isplitl [HO]; · iexact HO
    isplitl [Ht0] <;> iassumption
  iintro ⟨Hc0, HO⟩
  iapply (wp_send_o I N d n₂ h₂ k (oRS d (15 - (k.val + 1))) W)
  isplitl [Hso HnO Hq HO Ht2 Ht3]
  · isplitr; · iexact Hctx
    isplitl [Hso]; · iexact Hso
    isplitl [HnO]; · iexact HnO
    isplitl [Hq]; · iexact Hq
    isplitl [HO]; · iexact HO
    isplitl [Ht2] <;> iassumption
  iintro ⟨Hc2, HO⟩
  -- the waits
  have hab : Above (2 + k.val) (oRS d (15 - (k.val + 1))) := fun g u hg => by
    have := above_oRS d (15 - (k.val + 1)) (by omega) g u hg; exact ⟨this.1, by omega⟩
  iapply (wp_wait_xf I N d 0 k (src := slabML k) (dst := rowsML d k) rfl (n := 2 + k.val) (Nat.zero_le _) hab)
  isplitl [Hc0 HO Ha0]
  · isplitr; · iexact Hctx
    isplitl [Hc0]; · iexact Hc0
    isplitl [HO] <;> iassumption
  iintro ⟨⟨%W0, HO⟩, Hz0, Hrows⟩
  ihave Hrows := (Entails.of_eq (show payS I d (some (some (0, k))) false = pay0 I d k from rfl)) $$ Hrows
  unfold pay0
  ihave Hml := (pointsTo_split_subset (ℓ := (d : Thread nD τ).loc cc0_scratch1) (I := (rowsML d k).view.set) (Finset.subset_univ _)).2 $$ [Hrows Hmlr]
  · isplitl [Hrows] <;> iassumption
  iapply (wp_wait_xf I N d 1 k (src := rowsML d k) (dst := slabML k) rfl (n := 2 + k.val) (Nat.le_refl _) hab)
  isplitl [Hc1 HO Ha1]
  · isplitr; · iexact Hctx
    isplitl [Hc1]; · iexact Hc1
    isplitl [HO] <;> iassumption
  iintro ⟨⟨%W1, HO⟩, Hz1, HML⟩
  ihave HML := (Entails.of_eq (show payS I d (some (some (1, k))) false = pay1 I d k from rfl)) $$ HML
  unfold pay1
  icases HML with ⟨%fm, %hfm, HML⟩
  iapply (wp_wait_xf I N d 2 k (src := slabO k) (dst := mSO) rfl (n := 2 + k.val) (Nat.zero_le _) hab)
  isplitl [Hc2 HO Ha2]
  · isplitr; · iexact Hctx
    isplitl [Hc2]; · iexact Hc2
    isplitl [HO] <;> iassumption
  iintro ⟨⟨%W2, HO⟩, Hz2, Hso⟩
  ihave Hso := (Entails.of_eq (show payS I d (some (some (2, k))) false = pay2 d from rfl)) $$ Hso
  unfold pay2
  icases Hso with ⟨%fso', Hso⟩
  iapply (wp_wait_xf I N d 3 k (src := mSO) (dst := slabO k) rfl (n := 2 + k.val) (Nat.le_refl _) hab)
  isplitl [Hc3 HO Ha3]
  · isplitr; · iexact Hctx
    isplitl [Hc3]; · iexact Hc3
    isplitl [HO] <;> iassumption
  iintro ⟨⟨%W3, HO⟩, Hz3, HP⟩
  ihave HP := (Entails.of_eq (show payS I d (some (some (3, k))) false = pay3 I d k from rfl)) $$ HP
  unfold pay3 landO
  icases HP with ⟨⟨%fr, %hfr, HRO⟩, Hq⟩
  -- the merge
  iapply (wp_hopMerge d k fm _ (rd_slabML hfm) fr _ (rd_slabO hfr) (St I k.val d).1 (St I k.val d).2)
  isplitl [Hml Ho HML HRO]
  · isplitl [Hml]; · iexact Hml
    isplitl [Ho]; · iexact Ho
    isplitl [HML] <;> iassumption
  iintro ⟨Hml, Ho, HML, HRO⟩
  iapply HK
  rw [St_succ]
  isplitl [Hml]; · iexact Hml
  isplitl [Ho]; · iexact Ho
  isplitl [Hso]; · iexists fso'; rw [View.set_whole]; iexact Hso
  isplitl [Hq]; · iexact Hq
  isplitl [Hup]; · iexact Hup
  isplitr [HO]
  · isplitr [Hdown]
    · unfold hopDone anyML anyO
      isplitl [HML HRO]
      · isplitl [HML]
        · iexists fm; iexact HML
        · iexists fr; iexact HRO
      isplitl [Hz0]; · iexact Hz0
      isplitl [Hz1]; · iexact Hz1
      isplitl [Hz2] <;> iassumption
    iexact Hdown
  iexists W3; iexact HO

/-- The reduce-scatter's last `n` hops. -/
theorem wp_hops (d : Dev nD) (K : Pg F) (Q : PUnit → sProp 𝕄) : ∀ (n : ℕ) (h : n ≤ 15),
    iprop((ctx I N ∗ RSst I d (15 - n)) ∗ (RSst I d 15 -∗ WP d K Q)) ⊢ WP d (hops d K n h) Q
  | 0, _ => by
    iintro ⟨⟨-, H⟩, HK⟩
    iapply HK; iexact H
  | n + 1, h => by
    show _ ⊢ WP d (hop d ⟨14 - n, by omega⟩ (nxt d) (nxt d) (hops d K n (by omega))) Q
    have hk : 14 - n < 15 := by omega
    have hn : n ≤ 15 := by omega
    have e1 : 15 - (n + 1) = (⟨14 - n, hk⟩ : Fin 15).val := by show 15 - (n + 1) = 14 - n; omega
    have e2 : (⟨14 - n, hk⟩ : Fin 15).val + 1 = 15 - n := by show 14 - n + 1 = 15 - n; omega
    iintro ⟨⟨#Hctx, H⟩, HK⟩
    iapply (wp_hop I N d (nxt d) (nxt d) rfl rfl ⟨14 - n, hk⟩)
    isplitl [H]
    · isplitr; · iexact Hctx
      rw [← e1]; iexact H
    rw [e2]
    iintro H
    iapply (wp_hops d K Q n hn)
    isplitl [H]
    · isplitr; · iexact Hctx
      iexact H
    iexact HK

/-! ## An all-gather hop -/

/-- Rows gathered after `k` hops: those of the chunks up to `k` places to the left. -/
def HS (d : Dev nD) (k : ℕ) : Finset S2048x1024.Idx := (Finset.range (k + 1)).biUnion fun j => RS (back d j)

theorem HS_succ (d : Dev nD) (k : ℕ) : HS d (k + 1) = RS (back d (k + 1)) ∪ HS d k := by
  unfold HS; rw [Finset.range_add_one, Finset.biUnion_insert]
theorem HS_zero (d : Dev nD) : HS d 0 = RS d := by
  unfold HS; rw [zero_add, Finset.range_one, Finset.singleton_biUnion, back_zero]
theorem RS_sub_HS (d : Dev nD) (k : ℕ) : RS (back d k) ⊆ HS d k := by
  cases k with
  | zero => rw [HS_zero, back_zero]
  | succ k => rw [HS_succ]; exact Finset.subset_union_left
theorem back_inj (d : Dev nD) {i j : ℕ} (hi : i < 16) (hj : j < 16) (h : back d i = back d j) : i = j := by
  have h' : (d.val + 16 - i % 16) % 16 = (d.val + 16 - j % 16) % 16 := congrArg Fin.val h
  have := d.isLt
  have hd : d.val < 16 := d.isLt
  omega
theorem RS_disj {e e' : Dev nD} (h : e ≠ e') : Disjoint (RS e) (RS e') := by
  rw [Finset.disjoint_left]
  intro i hi hi'
  rw [mem_RS] at hi hi'
  exact h (Fin.ext (hi.symm.trans hi'))
theorem HS_disj (d : Dev nD) (k : Fin 15) : Disjoint (RS (back d (k.val + 1))) (HS d k.val) := by
  unfold HS
  rw [Finset.disjoint_biUnion_right]
  intro j hj
  rw [Finset.mem_range] at hj
  refine RS_disj fun h => ?_
  have := back_inj d (by omega) (by omega) h
  omega
theorem HS_15 (d : Dev nD) : HS d 15 = Finset.univ := by
  refine Finset.eq_univ_iff_forall.2 fun i => ?_
  unfold HS
  rw [Finset.mem_biUnion]
  have h0 := (show Fin 2048 from i 0).isLt
  have hd : d.val < 16 := d.isLt
  refine ⟨(d.val + 16 - (show Fin 2048 from i 0).val / 128) % 16, by rw [Finset.mem_range]; omega, ?_⟩
  rw [mem_RS]
  show (show Fin 2048 from i 0).val / 128 = (d.val + 16 - ((d.val + 16 - (show Fin 2048 from i 0).val / 128) % 16) % 16) % 16
  omega

/-- Rows of a device's context buffer, at any contents. -/
def anyRows (d e : Dev nD) : sProp 𝕄 := iprop(∃ f, (d : Thread nD τ).loc cc0_scratch0 ↦[RS e]{fullShare} f)

/-- What a hop uses up, and what it leaves. -/
def agRes (d : Dev nD) (k : Fin 15) : sProp 𝕄 :=
  iprop(anyRows (nxt d) (back d k.val) ∗ (atPos ER (xfC d 4 k) 0 ∅ 0 ∗ atPos ER (xfC d 5 k) 0 ∅ 0)
    ∗ (dutyTok ER (xfC d 4 k) 0 false ∗ dutyTok ER (xfC (nxt d) 5 k) 0 false) ∗ cred (tallyAt (xfC d 5 k) () (amtF 5)))
def agDone (d : Dev nD) (k : Fin 15) : sProp 𝕄 := iprop(semVal (xfC d 4 k) 0 ∗ semVal (xfC d 5 k) 0)

/-- The all-gather's state before hop `k`. -/
def AGst (d : Dev nD) (k : ℕ) : sProp 𝕄 :=
  iprop(((d : Thread nD τ).loc cc0_scratch0 ↦[HS d k]{fullShare} cat I)
    ∗ bigSep (upFrom k) (agRes d) ∗ bigSep (downTo k) (agDone d) ∗ ∃ W, owes (d : Thread nD τ) (oAG d (15 - k)) W)

theorem catRows_src (d : Dev nD) (k : Fin 15) :
    ((rowsQ d k).view.loc (d : Thread nD τ) ↦[(rowsQ d k).view.set]{fullShare} cat I : sProp 𝕄) = catRows I d (back d k.val) := by
  unfold catRows; rw [rowsQ_set]
theorem anyRows_dst (d : Dev nD) (k : Fin 15) :
    iprop(∃ f, (rowsQ d k).view.loc (nxt d : Thread nD τ) ↦[(rowsQ d k).view.set]{fullShare} f) = (anyRows (nxt d) (back d k.val) : sProp 𝕄) := by
  unfold anyRows; rw [rowsQ_set]
theorem catRows_dst (d : Dev nD) (k : Fin 15) (fd : Buf (Elt F) ((rowsQ d k).view.loc (nxt d : Thread nD τ))) :
    ((rowsQ d k).view.loc (nxt d : Thread nD τ) ↦[(rowsQ d k).view.set]{fullShare}
      ((rowsQ d k).view.write (Elt F) fd ((rowsQ d k).view.read (Elt F) (cat I)) Finset.univ) : sProp 𝕄) = catRows I (nxt d) (back (nxt d) (k.val + 1)) := by
  have h : ((rowsQ d k).view.loc (nxt d : Thread nD τ) ↦[(rowsQ d k).view.set]{fullShare}
      ((rowsQ d k).view.write (Elt F) fd ((rowsQ d k).view.read (Elt F) (cat I)) Finset.univ) : sProp 𝕄)
      = ((rowsQ d k).view.loc (nxt d : Thread nD τ) ↦[(rowsQ d k).view.set]{fullShare} cat I) := pointsTo_congr fun i hi => by
    rw [View.write_read_eq_piecewise]
    exact Finset.piecewise_eq_of_mem _ _ _ hi
  rw [h]
  unfold catRows
  rw [rowsQ_set, back_nxt]

/-- The copy of a chunk's contexts to the right neighbour. -/
theorem wp_send_ag (d n : Dev nD) (hn : n = nxt d) (k : Fin 15) {hsc : (rowsQ d k : Memref sig (Dev.tc n : Thread nD τ).2.kind .vmem S128x1024 .bf16).view.ref.isScScratch = false}
    {hsrc : (rowsQ d k).view.WordExact} {hdst : (rowsQ d k).view.WordExact}
    {hsem : DmaTarget.Typed .vmem (.dma (semOf cc0_scratch11 k)) (.remote (Dev.tc n : Thread nD τ) (rowsQ d k) (.dma (semOf cc0_scratch10 k)) hsc)}
    {K : PUnit → Pg F} {Q : PUnit → sProp 𝕄} (O : CellTallies nD τ sig Unit) (W : Waits sig Unit) :
    iprop((ctx I N ∗ catRows I d (back d k.val) ∗ anyRows (nxt d) (back d k.val) ∗ owes (d : Thread nD τ) (O + tallyAt (xfC (nxt d) 5 k) () (amtF 5)) W
          ∗ dutyTok ER (xfC d 4 k) 0 false ∗ dutyTok ER (xfC (nxt d) 5 k) 0 false)
        ∗ ((cred (tallyAt (xfC d 4 k) () (amtF 4)) ∗ owes (d : Thread nD τ) O W) -∗ WP d (K ⟨⟩) Q))
      ⊢ WP d (.op (.enqueueDma (rowsQ d k) (.remote (Dev.tc n : Thread nD τ) (rowsQ d k) (.dma (semOf cc0_scratch10 k)) hsc) (.dma (semOf cc0_scratch11 k)) hsrc hdst hsem) K) Q := by
  subst hn
  rw [← catRows_src, ← anyRows_dst]
  unfold ctx
  iintro ⟨⟨⟨#Hrec, -⟩, Hs, ⟨%fd, Hd⟩, HO, Ht0, Ht1⟩, HK⟩
  ihave #H0 := (recs_at I N (d, some (4, k))) $$ Hrec
  ihave #H1 := (recs_at I N (nxt d, some (5, k))) $$ Hrec
  icases H0 with ⟨#Hi0, #Hr0⟩
  icases H1 with ⟨#Hi1, #Hr1⟩
  iapply (Rounds.wp_send_pointsTo 𝒱₀ ER (Rd I) (d : Thread nD τ) none (κ₁ := N (d, some (4, k))) (κ₂ := N (nxt d, some (5, k)))
    (r₁ := 0) (r₂ := 0) (d₁ := false) (d₂ := false) (fd := fd)
    (by rw [duties_cell I d (some (4, k))]; exact Finset.mem_singleton_self _) (by rw [duties_cell I (nxt d) (some (5, k))]; exact Finset.mem_singleton_self _)
    () () (amtF 5) rfl (amount_cell I d (some (4, k)) false) (amount_cell I (nxt d) (some (5, k)) false) O rfl (W := W)
    (by rw [payload_cell I d (some (4, k))]; exact Entails.of_eq (catRows_src I d k))
    (by rw [payload_cell I (nxt d) (some (5, k))]; exact Entails.of_eq (catRows_dst I d k fd))) $$ [Hs Hd HO Ht0 Ht1]
  · isplitr; · iexact Hi0
    isplitr; · iexact Hi1
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro H
  iapply HK
  iexact H

/-- An all-gather hop. -/
theorem wp_agHop (d n : Dev nD) (hn : n = nxt d) (k : Fin 15) (K : Pg F) (Q : PUnit → sProp 𝕄) :
    iprop((ctx I N ∗ AGst I d k.val) ∗ (AGst I d (k.val + 1) -∗ WP d K Q)) ⊢ WP d (agHop d k n K) Q := by
  unfold AGst agHop
  rw [upFrom_step, downTo_step, oAG_step]
  iintro ⟨⟨#Hctx, Hq, ⟨Hres, Hup⟩, Hdown, ⟨%W, HO⟩⟩, HK⟩
  unfold agRes
  icases Hres with ⟨Hn, ⟨Ha4, Ha5⟩, ⟨Ht4, Ht5⟩, Hc5⟩
  ihave Hq := (pointsTo_split_subset (ℓ := (d : Thread nD τ).loc cc0_scratch0) (RS_sub_HS d k.val)).1 $$ Hq
  icases Hq with ⟨Hs, Hq⟩
  iapply (wp_send_ag I N d n hn k (oAG d (15 - (k.val + 1))) W)
  isplitl [Hs Hn HO Ht4 Ht5]
  · isplitr; · iexact Hctx
    isplitl [Hs]; · unfold catRows; iexact Hs
    isplitl [Hn]; · iexact Hn
    isplitl [HO]; · iexact HO
    isplitl [Ht4] <;> iassumption
  iintro ⟨Hc4, HO⟩
  have hab : Above (17 + k.val) (oAG d (15 - (k.val + 1))) := fun g u hg => by
    have := above_oAG d (15 - (k.val + 1)) (by omega) g u hg; exact ⟨this.1, by omega⟩
  iapply (wp_wait_xf I N d 4 k (src := rowsQ d k) (dst := rowsQ d k) rfl (n := 17 + k.val) (Nat.zero_le _) hab)
  isplitl [Hc4 HO Ha4]
  · isplitr; · iexact Hctx
    isplitl [Hc4]; · iexact Hc4
    isplitl [HO] <;> iassumption
  iintro ⟨⟨%W4, HO⟩, Hz4, Hs⟩
  ihave Hs := (Entails.of_eq (show payS I d (some (some (4, k))) false = catRows I d (back d k.val) from rfl)) $$ Hs
  iapply (wp_wait_xf I N d 5 k (src := rowsQ d k) (dst := rowsQ d k) rfl (n := 17 + k.val) (Nat.le_refl _) hab)
  isplitl [Hc5 HO Ha5]
  · isplitr; · iexact Hctx
    isplitl [Hc5]; · iexact Hc5
    isplitl [HO] <;> iassumption
  iintro ⟨⟨%W5, HO⟩, Hz5, Hr⟩
  ihave Hr := (Entails.of_eq (show payS I d (some (some (5, k))) false = catRows I d (back d (k.val + 1)) from rfl)) $$ Hr
  unfold catRows
  ihave Hq := (pointsTo_split_subset (ℓ := (d : Thread nD τ).loc cc0_scratch0) (RS_sub_HS d k.val)).2 $$ [Hs Hq]
  · isplitl [Hs] <;> iassumption
  iapply HK
  rw [HS_succ]
  isplitl [Hq Hr]
  · iapply (pointsTo_union (ℓ := (d : Thread nD τ).loc cc0_scratch0) (HS_disj d k)).2
    isplitl [Hr] <;> iassumption
  isplitl [Hup]; · iexact Hup
  isplitr [HO]
  · isplitr [Hdown]
    · unfold agDone
      isplitl [Hz4] <;> iassumption
    iexact Hdown
  iexists W5; iexact HO

/-- The all-gather's last `n` hops. -/
theorem wp_ags (d : Dev nD) (K : Pg F) (Q : PUnit → sProp 𝕄) : ∀ (n : ℕ) (h : n ≤ 15),
    iprop((ctx I N ∗ AGst I d (15 - n)) ∗ (AGst I d 15 -∗ WP d K Q)) ⊢ WP d (ags d K n h) Q
  | 0, _ => by
    iintro ⟨⟨-, H⟩, HK⟩
    iapply HK; iexact H
  | n + 1, h => by
    show _ ⊢ WP d (agHop d ⟨14 - n, by omega⟩ (nxt d) (ags d K n (by omega))) Q
    have hk : 14 - n < 15 := by omega
    have hn : n ≤ 15 := by omega
    have e1 : 15 - (n + 1) = (⟨14 - n, hk⟩ : Fin 15).val := by show 15 - (n + 1) = 14 - n; omega
    have e2 : (⟨14 - n, hk⟩ : Fin 15).val + 1 = 15 - n := by show 14 - n + 1 = 15 - n; omega
    iintro ⟨⟨#Hctx, H⟩, HK⟩
    iapply (wp_agHop I N d (nxt d) rfl ⟨14 - n, hk⟩)
    isplitl [H]
    · isplitr; · iexact Hctx
      rw [← e1]; iexact H
    rw [e2]
    iintro H
    iapply (wp_ags d K Q n hn)
    isplitl [H]
    · isplitr; · iexact Hctx
      iexact H
    iexact HK

end Cert.KernelIdeal.Gen.Attn

end
-- ==== Proof.Body.lean ====
/- The whole body on a device, executed from what it starts with to what it leaves. -/
module

public import proofs.«01_k».proof.Proof.Comm

@[expose] public section

set_option maxRecDepth 16384

noncomputable section

namespace Cert.KernelIdeal.Gen.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The landing buffers, slab by slab -/

/-- A slab's elements are those of its first coordinate. -/
theorem slabML_mem (k : Fin 15) (i : S15x128x16.Idx) : i ∈ (slabML k).view.set ↔ (show Fin 15 from i 0) = k := by
  have hs : (slabML k).view.set = (rSlabML k).set := (View.set_reshape _ _).trans (View.set_slice_whole cc0_scratch4 (rSlabML k))
  rw [hs, Rect.mem_set_unit]
  have h0 := (show Fin 15 from i 0).isLt
  have h1 := (show Fin 128 from i 1).isLt
  have h2 := (show Fin 16 from i 2).isLt
  constructor
  · intro h
    have := h 0
    change k.val ≤ (show Fin 15 from i 0).val ∧ (show Fin 15 from i 0).val < k.val + 1 at this
    exact Fin.ext (by omega)
  · intro h a
    have h' : (show Fin 15 from i 0).val = k.val := congrArg Fin.val h
    fin_cases a
    · show k.val ≤ (show Fin 15 from i 0).val ∧ (show Fin 15 from i 0).val < k.val + 1; omega
    · show 0 ≤ (show Fin 128 from i 1).val ∧ (show Fin 128 from i 1).val < 0 + 128; omega
    · show 0 ≤ (show Fin 16 from i 2).val ∧ (show Fin 16 from i 2).val < 0 + 16; omega
theorem slabO_mem (k : Fin 15) (i : S15x128x1024.Idx) : i ∈ (slabO k).view.set ↔ (show Fin 15 from i 0) = k := by
  have hs : (slabO k).view.set = (rSlabO k).set := (View.set_reshape _ _).trans (View.set_slice_whole cc0_scratch5 (rSlabO k))
  rw [hs, Rect.mem_set_unit]
  have h0 := (show Fin 15 from i 0).isLt
  have h1 := (show Fin 128 from i 1).isLt
  have h2 := (show Fin 1024 from i 2).isLt
  constructor
  · intro h
    have := h 0
    change k.val ≤ (show Fin 15 from i 0).val ∧ (show Fin 15 from i 0).val < k.val + 1 at this
    exact Fin.ext (by omega)
  · intro h a
    have h' : (show Fin 15 from i 0).val = k.val := congrArg Fin.val h
    fin_cases a
    · show k.val ≤ (show Fin 15 from i 0).val ∧ (show Fin 15 from i 0).val < k.val + 1; omega
    · show 0 ≤ (show Fin 128 from i 1).val ∧ (show Fin 128 from i 1).val < 0 + 128; omega
    · show 0 ≤ (show Fin 1024 from i 2).val ∧ (show Fin 1024 from i 2).val < 0 + 1024; omega

/-- A family of sets, each the elements of one class, is disjoint and covers. -/
theorem classes_disj {I : Type} [DecidableEq I] (S : Fin 15 → Finset I) (cl : I → Fin 15) (h : ∀ k i, i ∈ S k ↔ cl i = k) :
    ∀ t ∈ (Finset.univ : Finset (Fin 15)), ∀ t' ∈ (Finset.univ : Finset (Fin 15)), t ≠ t' → Disjoint (S t) (S t') := fun t _ t' _ hne =>
  Finset.disjoint_left.2 fun i hi hi' => hne (((h t i).1 hi).symm.trans ((h t' i).1 hi'))
theorem classes_univ {I : Type} [DecidableEq I] [Fintype I] (S : Fin 15 → Finset I) (cl : I → Fin 15) (h : ∀ k i, i ∈ S k ↔ cl i = k) :
    (Finset.univ : Finset (Fin 15)).biUnion S = Finset.univ :=
  Finset.eq_univ_iff_forall.2 fun i => Finset.mem_biUnion.2 ⟨cl i, Finset.mem_univ _, (h _ i).2 rfl⟩

/-- Separating conjunctions compared member by member. -/
theorem bigSep_mono_ent {T : Type} {S : Finset T} {Φ Ψ : T → sProp 𝕄} (h : ∀ k, Φ k ⊢ Ψ k) : bigSep S Φ ⊢ bigSep S Ψ :=
  bigSep_mono fun k _ => h k

/-- A whole buffer is its classes', each at some contents. -/
theorem split_classes (ℓ : Loc nD τ sig) (S : Fin 15 → Finset (Idx ℓ)) (cl : Idx ℓ → Fin 15) (h : ∀ k i, i ∈ S k ↔ cl i = k) (f : Buf (Elt F) ℓ) :
    (ℓ ↦{fullShare} f : sProp 𝕄) ⊢ bigSep Finset.univ fun k : Fin 15 => iprop(∃ f, ℓ ↦[S k]{fullShare} f) := by
  show (ℓ ↦[Finset.univ]{fullShare} f : sProp 𝕄) ⊢ _
  rw [← classes_univ S cl h, pointsTo_biUnion Finset.univ S (classes_disj S cl h)]
  exact bigSep_mono_ent fun k => by iintro H; iexists f; iexact H
theorem join_classes (ℓ : Loc nD τ sig) (S : Fin 15 → Finset (Idx ℓ)) (cl : Idx ℓ → Fin 15) (h : ∀ k i, i ∈ S k ↔ cl i = k) :
    (bigSep Finset.univ fun k : Fin 15 => iprop(∃ f, ℓ ↦[S k]{fullShare} f) : sProp 𝕄) ⊢ iprop(∃ f : Buf (Elt F) ℓ, ℓ ↦{fullShare} f) := by
  iintro H
  ihave H := (BI.bigSep_exists_pi Finset.univ (fun (k : Fin 15) (f : Buf (Elt F) ℓ) => (ℓ ↦[S k]{fullShare} f : sProp 𝕄))) $$ H
  icases H with ⟨%fs, H⟩
  ihave H := (pointsTo_biUnion_join Finset.univ S fs (fs 0) (classes_disj S cl h)) $$ H
  rw [classes_univ S cl h]
  icases H with ⟨%g, -, H⟩
  iexists g; iexact H

theorem slabs_split (d : Dev nD) (f4 : Buf (Elt F) ((d : Thread nD τ).loc cc0_scratch4)) (f5 : Buf (Elt F) ((d : Thread nD τ).loc cc0_scratch5)) :
    iprop(pt d cc0_scratch4 f4 ∗ pt d cc0_scratch5 f5) ⊢ bigSep Finset.univ fun k : Fin 15 => iprop(anyML (F := F) d k ∗ anyO d k) := by
  rw [bigSep_sep']
  unfold anyML anyO
  exact BIClass.sep_mono (split_classes ((d : Thread nD τ).loc cc0_scratch4) _ (fun i : S15x128x16.Idx => (i 0 : Fin 15)) slabML_mem f4)
    (split_classes ((d : Thread nD τ).loc cc0_scratch5) _ (fun i : S15x128x1024.Idx => (i 0 : Fin 15)) slabO_mem f5)
theorem slabs_join (d : Dev nD) :
    (bigSep Finset.univ fun k : Fin 15 => iprop(anyML (F := F) d k ∗ anyO d k)) ⊢ iprop((∃ f, pt d cc0_scratch4 f) ∗ ∃ f, pt d cc0_scratch5 f) := by
  rw [bigSep_sep']
  unfold anyML anyO
  exact BIClass.sep_mono (join_classes ((d : Thread nD τ).loc cc0_scratch4) _ (fun i : S15x128x16.Idx => (i 0 : Fin 15)) slabML_mem)
    (join_classes ((d : Thread nD τ).loc cc0_scratch5) _ (fun i : S15x128x1024.Idx => (i 0 : Fin 15)) slabO_mem)

/-- The right neighbour's rows off its own are the rows of the fifteen chunks a device sends. -/
theorem rest_rows (d : Dev nD) : Finset.univ \ RS (nxt d) = (Finset.univ : Finset (Fin 15)).biUnion fun k => RS (back d k.val) := by
  ext i
  rw [Finset.mem_sdiff, Finset.mem_biUnion, mem_RS]
  have h0 := (show Fin 2048 from i 0).isLt
  have hd : d.val < 16 := d.isLt
  have hn : (nxt d).val = (d.val + 1) % 16 := rfl
  have hb : ∀ k, (back d k).val = (d.val + 16 - k % 16) % 16 := fun _ => rfl
  constructor
  · rintro ⟨-, h⟩
    rw [hn] at h
    refine ⟨⟨(d.val + 16 - (show Fin 2048 from i 0).val / 128) % 16, by omega⟩, Finset.mem_univ _, ?_⟩
    rw [mem_RS, hb]
    dsimp only
    omega
  · rintro ⟨k, -, hk⟩
    rw [mem_RS, hb] at hk
    have := k.isLt
    exact ⟨Finset.mem_univ _, by rw [hn]; omega⟩
theorem rows_split (d : Dev nD) : (qrest (F := F) (back d 15)) ⊢ bigSep Finset.univ fun k : Fin 15 => anyRows (F := F) (nxt d) (back d k.val) := by
  rw [back_15]
  unfold qrest anyRows
  iintro ⟨%f, H⟩
  have e : ((nxt d : Thread nD τ).loc cc0_scratch0 ↦[Finset.univ \ RS (nxt d)]{fullShare} f : sProp 𝕄)
      = bigSep Finset.univ fun k : Fin 15 => ((nxt d : Thread nD τ).loc cc0_scratch0 ↦[RS (back d k.val)]{fullShare} f) := by
    rw [rest_rows, pointsTo_biUnion (ℓ := (nxt d : Thread nD τ).loc cc0_scratch0) Finset.univ (fun k : Fin 15 => RS (back d k.val))
      (fun k _ k' _ hne => RS_disj fun h => hne (Fin.ext (back_inj d (by omega) (by omega) h)))]
  ihave H := (Entails.of_eq e) $$ H
  iapply (bigSep_mono_ent (Φ := fun k : Fin 15 => ((nxt d : Thread nD τ).loc cc0_scratch0 ↦[RS (back d k.val)]{fullShare} f : sProp 𝕄))
    (Ψ := fun k : Fin 15 => iprop(∃ f, (nxt d : Thread nD τ).loc cc0_scratch0 ↦[RS (back d k.val)]{fullShare} f)) fun k => by
      iintro H; iexists f; iexact H)
  iexact H

/-! ## What a device starts with -/

variable (I : Ins F) (N : Dev nD × CIdx → ℕ)

/-- A hop's positions and duties; an all-gather hop's; a hop's credits. -/
def hopTok (d : Dev nD) (k : Fin 15) : sProp 𝕄 :=
  iprop((atPos ER (xfC d 0 k) 0 ∅ 0 ∗ atPos ER (xfC d 1 k) 0 ∅ 0 ∗ atPos ER (xfC d 2 k) 0 ∅ 0 ∗ atPos ER (xfC d 3 k) 0 ∅ 0)
    ∗ (dutyTok ER (xfC d 0 k) 0 false ∗ dutyTok ER (xfC (nxt d) 1 k) 0 false ∗ dutyTok ER (xfC d 2 k) 0 false ∗ dutyTok ER (xfC (nxt d) 3 k) 0 false))
def agTok (d : Dev nD) (k : Fin 15) : sProp 𝕄 :=
  iprop((atPos ER (xfC d 4 k) 0 ∅ 0 ∗ atPos ER (xfC d 5 k) 0 ∅ 0) ∗ (dutyTok ER (xfC d 4 k) 0 false ∗ dutyTok ER (xfC (nxt d) 5 k) 0 false))
def crdRS (d : Dev nD) (k : Fin 15) : sProp 𝕄 := iprop(cred (tallyAt (xfC d 1 k) () (amtF 1)) ∗ cred (tallyAt (xfC d 3 k) () (amtF 3)))
def crdAG (d : Dev nD) (k : Fin 15) : sProp 𝕄 := cred (tallyAt (xfC d 5 k) () (amtF 5))
/-- The barrier's. -/
def barTok (d : Dev nD) : sProp 𝕄 :=
  iprop(atPos ER (barC d) 0 ∅ 0 ∗ dutyTok ER (barC (nxt d)) 0 false ∗ dutyTok ER (barC (prv d)) 0 true)

theorem hopRes_intro (d : Dev nD) : iprop(barPay (F := F) d ∗ bigSep Finset.univ (hopTok (F := F) d) ∗ bigSep Finset.univ (crdRS (F := F) d)) ⊢ bigSep Finset.univ (hopRes (F := F) d) := by
  unfold barPay
  rw [← bigSep_sep', ← bigSep_sep']
  refine bigSep_mono_ent fun k => ?_
  unfold hopTok crdRS hopRes
  iintro ⟨HA, ⟨HB, HC⟩, HD⟩
  isplitl [HA]; · iexact HA
  isplitl [HB]; · iexact HB
  isplitl [HC] <;> iassumption
theorem agRes_intro (d : Dev nD) : iprop((bigSep Finset.univ fun k : Fin 15 => anyRows (F := F) (nxt d) (back d k.val)) ∗ bigSep Finset.univ (agTok (F := F) d) ∗ bigSep Finset.univ (crdAG (F := F) d))
    ⊢ bigSep Finset.univ (agRes (F := F) d) := by
  rw [← bigSep_sep', ← bigSep_sep']
  refine bigSep_mono_ent fun k => ?_
  unfold agTok crdAG agRes
  iintro ⟨HA, ⟨HB, HC⟩, HD⟩
  isplitl [HA]; · iexact HA
  isplitl [HB]; · iexact HB
  isplitl [HC] <;> iassumption
/-- A device's transfer cells of a hop, closed. -/
def zRS (d : Dev nD) (k : Fin 15) : sProp 𝕄 := iprop(semVal (xfC d 0 k) 0 ∗ semVal (xfC d 1 k) 0 ∗ semVal (xfC d 2 k) 0 ∗ semVal (xfC d 3 k) 0)
theorem hopDone_elim (d : Dev nD) : bigSep Finset.univ (hopDone (F := F) d)
    ⊢ iprop(((∃ f, pt d cc0_scratch4 f) ∗ ∃ f, pt d cc0_scratch5 f) ∗ bigSep Finset.univ (zRS (F := F) d)) := by
  have h : bigSep Finset.univ (hopDone (F := F) d) = iprop((bigSep Finset.univ fun k : Fin 15 => iprop(anyML (F := F) d k ∗ anyO d k)) ∗ bigSep Finset.univ (zRS (F := F) d)) := by
    rw [← bigSep_sep']; rfl
  rw [h]
  exact sep_mono_left (slabs_join d)

/-! ## The barrier and the queries -/

omit [FloatOps F] [Named F] in
theorem read_x (f : Ct F cc0_stg0_0) :
    mX.view.readAt (Elt F) (Rect.unit (s := S2048x1024) ![0, 0] S2048x1024.size inb_S2048x1024_S2048x1024_0_0).toLoadRect f = f :=
  Memref.readAt_unit_zero (Elt F) cc0_stg0_0 hz2 _ f
omit [FloatOps F] [Named F] in
theorem read_wq (f : Ct F cc0_stg1_0) :
    mWq.view.readAt (Elt F) (Rect.unit (s := S1024x1024) ![0, 0] S1024x1024.size inb_S1024x1024_S1024x1024_0_0).toLoadRect f = f :=
  Memref.readAt_unit_zero (Elt F) cc0_stg1_0 hz2 _ f
omit [FloatOps F] [Named F] in
theorem write_q (f w : Ct F cc0_scratch0) :
    (mQ.access (Rect.unit (s := S2048x1024) ![0, 0] S2048x1024.size inb_S2048x1024_S2048x1024_0_0) : View sig .tc _ _ _).write (Elt F) f w Finset.univ = w :=
  Memref.write_access_unit_zero_univ (Elt F) cc0_scratch0 hz2 _ f w

/-- What a device's signals hand over: to the left its slabs, to the right nothing. -/
theorem pay_left (d : Dev nD) : (Rd I).payload (barC (prv d)) 0 true = bigSep Finset.univ fun k : Fin 15 => iprop(anyML (F := F) d k ∗ anyO d k) := by
  rw [payload_cell I (prv d) none]
  show barPay (prv d) = _
  unfold barPay; rw [nxt_prv]
theorem pay_right (d : Dev nD) : (Rd I).payload (barC (nxt d)) 0 false = (iprop(emp) : sProp 𝕄) := by
  rw [payload_cell I (nxt d) none]; rfl

/-- The barrier, a device's slabs handed to the left, the right neighbour's received, and the queries computed. -/
theorem wp_pre (d : Dev nD) (n₁ n₂ : Dev nD → Dev nD) (h₁ : n₁ d = prv d) (h₂ : n₂ d = nxt d) (f0 : Buf (Elt F) ((d : Thread nD τ).loc cc0_scratch0))
    (W : Waits sig Unit) (K : Dev nD → Pg F) (Q : PUnit → sProp 𝕄) :
    iprop((ctx I N ∗ (barTok (F := F) d ∗ cred (tallyAt (barC d) () 2)) ∗ (bigSep Finset.univ fun k : Fin 15 => iprop(anyML (F := F) d k ∗ anyO d k))
          ∗ owes (d : Thread nD τ) (O₀ d) W ∗ pt d cc0_stg0_0 (I.x d) ∗ pt d cc0_stg1_0 (I.wq d) ∗ pt d cc0_scratch0 f0)
        ∗ ((barPay (F := F) d ∗ semVal (barC d) 0 ∗ (∃ W, owes (d : Thread nD τ) (oRS d 15) W) ∗ pt d cc0_stg0_0 (I.x d) ∗ pt d cc0_stg1_0 (I.wq d) ∗ pt d cc0_scratch0 (qOf I d)) -∗ WP d (K d) Q))
      ⊢ WP d (pre n₁ n₂ K) Q := by
  unfold pre WP
  simp only [semSignalWord, semWaitWord, Prog.lift, Prog.bind_op, Prog.bind_ret, Prog.pure_eq_ret, wp_deviceId]
  rw [h₁, h₂]
  unfold ctx barTok O₀
  iintro ⟨⟨⟨#Hrec, #Hlev⟩, ⟨⟨Hat, HtN, HtP⟩, Hc⟩, Hsl, HO, Hx, Hw, Hq⟩, HK⟩
  ihave #HrP := (recs_at I N (prv d, none)) $$ Hrec
  ihave #HrN := (recs_at I N (nxt d, none)) $$ Hrec
  ihave #Hr := (recs_at I N (d, none)) $$ Hrec
  icases HrP with ⟨#HiP, #HrP⟩
  icases HrN with ⟨#HiN, #HrN⟩
  icases Hr with ⟨#Hi, #Hr⟩
  iapply (Rounds.wp_signal 𝒱₀ ER (Rd I) (d : Thread nD τ) none (dst := (prv d : Thread nD τ)) (κ := N (prv d, none))
      (d := true) (by rw [duties_cell I (prv d) none]; exact Finset.mem_univ _) ((amount_cell I (prv d) none true).trans (by decide)) ()
      (oRS d 15 + tallyAt (barC (nxt d)) () 1) rfl) $$ [HO HtP Hsl]
  · isplitr; · iexact HiP
    isplitl [HO]; · iexact HO
    isplitl [HtP]; · iexact HtP
    isplitl [Hsl]
    · rw [pay_left]; iexact Hsl
    · iexact HrP
  iintro HO
  iapply (Rounds.wp_signal 𝒱₀ ER (Rd I) (d : Thread nD τ) none (dst := (nxt d : Thread nD τ)) (κ := N (nxt d, none))
      (d := false) (by rw [duties_cell I (nxt d) none]; exact Finset.mem_univ _) ((amount_cell I (nxt d) none false).trans (by decide)) ()
      (oRS d 15) rfl) $$ [HO HtN]
  · isplitr; · iexact HiN
    isplitl [HO]; · iexact HO
    isplitl [HtN]; · iexact HtN
    isplitr
    · rw [pay_right]; iempintro
    · iexact HrN
  iintro HO
  iapply (Rounds.wp_wait_rest_token 𝒱₀ ER (Rd I) (d : Thread nD τ) none (κ := N (d, none))
      (wpE_semWait_eq 𝒱₀ (d : Thread nD τ) none Set.univ) (Set.mem_univ _) () (O := oRS d 15) (W := W) (R := 0) (m := 0) (T := ∅)
      (by rw [expect_bar]; decide)) $$ [Hc HO Hat]
  · isplitr; · iexact Hi
    isplitl [Hc]; · iexact Hc
    isplitl [HO]; · iexact HO
    isplitr
    · iapply (mayWait_of d (csem none) (n := 1) (by rw [kd_csem]; exact Nat.le_refl _) (above_oRS d 15 le_rfl)); iexact Hlev
    iexact Hat
  iintro ⟨HO, Hat, -, Hpay⟩
  ihave Hp := (Entails.of_eq (rest_bar I d)) $$ Hpay
  icases Hp with ⟨-, Hp⟩
  imod (Rounds.cell_close ER (Rd I) (Set.mem_univ (N (d, none))) (fun h => h) (R := 0 + 1) (duties_later I (barC d))) $$ [Hat] with Hz
  · isplitr; · iexact Hi
    iexact Hat
  iapply (wp_load 𝒱₀ (d : Thread nD τ) none Set.univ (m := mX) (Finset.subset_univ _)) $$ Hx; iintro Hx
  rw [read_x]
  iapply (wp_load 𝒱₀ (d : Thread nD τ) none Set.univ (m := mWq) (Finset.subset_univ _)) $$ Hw; iintro Hw
  rw [read_wq]
  iapply (wp_load 𝒱₀ (d : Thread nD τ) none Set.univ (m := mQ) (Finset.subset_univ _)) $$ Hq; iintro Hq
  iapply (wp_store 𝒱₀ (d : Thread nD τ) none Set.univ (m := mQ) (r := Rect.unit (s := S2048x1024) ![0, 0] S2048x1024.size inb_S2048x1024_S2048x1024_0_0)
    (Mk := Finset.univ) (Finset.subset_univ _)) $$ Hq; iintro Hq
  rw [write_q]
  iapply HK
  isplitl [Hp]; · iexact Hp
  isplitl [Hz]; · iexact Hz
  isplitl [HO]; · iexists _; iexact HO
  isplitl [Hx]; · iexact Hx
  isplitl [Hw]; · iexact Hw
  iexact Hq

/-! ## The whole -/

/-- The scratch buffers, at any contents. -/
def scr (d : Dev nD) : sProp 𝕄 :=
  iprop((∃ f, pt d cc0_scratch0 f) ∗ (∃ f, pt d cc0_scratch1 f) ∗ (∃ f, pt d cc0_scratch2 f) ∗ (∃ f, pt d cc0_scratch3 f)
    ∗ (∃ f, pt d cc0_scratch4 f) ∗ (∃ f, pt d cc0_scratch5 f))
/-- The staged arguments. -/
def stgIn (d : Dev nD) : sProp 𝕄 :=
  iprop(pt d cc0_stg0_0 (I.x d) ∗ pt d cc0_stg1_0 (I.wq d) ∗ pt d cc0_stg2_0 (I.k d) ∗ pt d cc0_stg3_0 (I.v d) ∗ pt d cc0_stg4_0 (I.wo d))
/-- What a device's body may use up: positions, duties, credits. -/
def lin (d : Dev nD) : sProp 𝕄 :=
  iprop(barTok (F := F) d ∗ bigSep Finset.univ (hopTok (F := F) d) ∗ bigSep Finset.univ (agTok (F := F) d))
def crd (d : Dev nD) : sProp 𝕄 :=
  iprop(cred (tallyAt (barC d) () 2) ∗ bigSep Finset.univ (crdRS (F := F) d) ∗ bigSep Finset.univ (crdAG (F := F) d))
/-- Its cells closed. -/
def zs (d : Dev nD) : sProp 𝕄 :=
  iprop(semVal (barC d) 0 ∗ bigSep Finset.univ (zRS (F := F) d) ∗ bigSep Finset.univ (agDone (F := F) d))

/-- After the barrier and the tile loop: the hops, the division, the all-gather, the projection. -/
theorem wp_tail (d : Dev nD) (f3 : Buf (Elt F) ((d : Thread nD τ).loc cc0_scratch3)) (f5 : Buf (Elt F) ((d : Thread nD τ).loc cc0_stg5_0)) (W : Waits sig Unit) (Q : PUnit → sProp 𝕄) :
    iprop((ctx I N ∗ (barPay (F := F) d ∗ bigSep Finset.univ (hopTok (F := F) d) ∗ bigSep Finset.univ (crdRS (F := F) d))
          ∗ (bigSep Finset.univ (agTok (F := F) d) ∗ bigSep Finset.univ (crdAG (F := F) d))
          ∗ owes (d : Thread nD τ) (oRS d 15) W
          ∗ pt d cc0_scratch0 (qOf I d) ∗ pt d cc0_scratch1 (locML I d) ∗ pt d cc0_scratch2 (locO I d) ∗ pt d cc0_scratch3 f3
          ∗ pt d cc0_stg4_0 (I.wo d) ∗ pt d cc0_stg5_0 f5)
        ∗ ((scr (F := F) d ∗ (bigSep Finset.univ (zRS (F := F) d) ∗ bigSep Finset.univ (agDone (F := F) d)) ∗ (∃ W, owes (d : Thread nD τ) 0 W)
            ∗ pt d cc0_stg4_0 (I.wo d) ∗ pt d cc0_stg5_0 (outF I d)) -∗ Q ⟨⟩))
      ⊢ WP d (tail d) Q := by
  unfold tail
  iintro ⟨⟨#Hctx, HR, ⟨HagT, HagC⟩, HO, Hq, Hml, Ho, Hso, Hw, Hout⟩, HK⟩
  ihave HR := (hopRes_intro d) $$ HR
  ihave Hq := (pointsTo_split_subset (ℓ := (d : Thread nD τ).loc cc0_scratch0) (I := RS d) (Finset.subset_univ _)).1 $$ Hq
  icases Hq with ⟨Hown, Hqr⟩
  iapply (wp_hops I N d _ Q 15 le_rfl)
  isplitl [HR HO Hml Ho Hso Hqr]
  · isplitr; · iexact Hctx
    unfold RSst
    rw [show 15 - 15 = 0 from rfl, upFrom_zero, downTo_zero, bigSep_empty, back_zero]
    isplitl [Hml]; · iexact Hml
    isplitl [Ho]; · iexact Ho
    isplitl [Hso]; · iexists f3; iexact Hso
    isplitl [Hqr]; · unfold qrest; iexists (qOf I d); iexact Hqr
    isplitl [HR]; · iexact HR
    isplitr; · iempintro
    iexists W; iexact HO
  unfold RSst
  rw [upFrom_15, downTo_15, bigSep_empty]
  iintro ⟨Hml, Ho, Hso, Hqr, -, Hdone, ⟨%W1, HO⟩⟩
  ihave Hrows := (rows_split d) $$ Hqr
  iapply (wp_mid I d _ Q)
  isplitl [Hml Ho Hown]
  · isplitl [Hml]; · iexact Hml
    isplitl [Ho] <;> iassumption
  iintro ⟨Hml, Ho, Hcat⟩
  ihave HA := (agRes_intro d) $$ [Hrows HagT HagC]
  · isplitl [Hrows]; · iexact Hrows
    isplitl [HagT] <;> iassumption
  iapply (wp_ags I N d _ Q 15 le_rfl)
  isplitl [HA HO Hcat]
  · isplitr; · iexact Hctx
    unfold AGst
    rw [show 15 - 15 = 0 from rfl, upFrom_zero, downTo_zero, bigSep_empty, HS_zero]
    isplitl [Hcat]; · unfold catRows; iexact Hcat
    isplitl [HA]; · iexact HA
    isplitr; · iempintro
    iexists W1; iexact HO
  unfold AGst
  rw [upFrom_15, downTo_15, bigSep_empty, HS_15]
  iintro ⟨Hcat, -, Hag, ⟨%W2, HO⟩⟩
  iapply (wp_outProj I d f5 Q)
  isplitl [Hcat Hw Hout]
  · isplitl [Hcat]; · iexact Hcat
    isplitl [Hw] <;> iassumption
  iintro ⟨Hcat, Hw, Hout⟩
  ihave Hd := (hopDone_elim d) $$ Hdone
  icases Hd with ⟨⟨H4, H5⟩, Hz⟩
  iapply HK
  unfold scr
  isplitl [Hcat Hml Ho Hso H4 H5]
  · isplitl [Hcat]; · iexists (cat I); iexact Hcat
    isplitl [Hml]; · iexists _; iexact Hml
    isplitl [Ho]; · iexists _; iexact Ho
    isplitl [Hso]; · iexact Hso
    isplitl [H4] <;> iassumption
  isplitl [Hz Hag]
  · isplitl [Hz] <;> iassumption
  isplitl [HO]; · iexists W2; iexact HO
  isplitl [Hw] <;> iassumption

omit [FloatOps F] [Named F] in
theorem dev1_eq (d : Dev nD) : (⟨k0_dev1 d, k0_dev1_lt d⟩ : Dev nD) = prv d := Fin.ext (k0_dev1_eq d)
omit [FloatOps F] [Named F] in
theorem dev2_eq (d : Dev nD) : (⟨k0_dev2 d, k0_dev2_lt d⟩ : Dev nD) = nxt d := Fin.ext (k0_dev2_eq d)

/-- The kernel's body on a device. -/
theorem wp_body (d : Dev nD) (f5 : Buf (Elt F) ((d : Thread nD τ).loc cc0_stg5_0)) (W : Waits sig Unit) (Q : PUnit → sProp 𝕄) :
    iprop((ctx I N ∗ lin (F := F) d ∗ crd (F := F) d ∗ scr (F := F) d ∗ owes (d : Thread nD τ) (O₀ d) W ∗ stgIn I d ∗ pt d cc0_stg5_0 f5)
        ∗ ((scr (F := F) d ∗ zs (F := F) d ∗ (∃ W, owes (d : Thread nD τ) 0 W) ∗ stgIn I d ∗ pt d cc0_stg5_0 (outF I d)) -∗ Q ⟨⟩))
      ⊢ WP d (cc0_body (F := F) mX (Memref.isWhole_whole _) mWq (Memref.isWhole_whole _) mK (Memref.isWhole_whole _) mV (Memref.isWhole_whole _) mWo (Memref.isWhole_whole _) mOut (Memref.isWhole_whole _)
          mQ (Memref.isWhole_whole _) mML (Memref.isWhole_whole _) mO (Memref.isWhole_whole _) mSO (Memref.isWhole_whole _) mRML (Memref.isWhole_whole _) mRO (Memref.isWhole_whole _)
          cc0_scratch6 cc0_scratch7 cc0_scratch8 cc0_scratch9 cc0_scratch10 cc0_scratch11) Q := by
  rw [body_eq]
  unfold lin crd stgIn
  rw [show scr (F := F) d = iprop((∃ f, pt d cc0_scratch0 f) ∗ (∃ f, pt d cc0_scratch1 f) ∗ (∃ f, pt d cc0_scratch2 f) ∗ (∃ f, pt d cc0_scratch3 f)
    ∗ (∃ f, pt d cc0_scratch4 f) ∗ (∃ f, pt d cc0_scratch5 f)) from rfl]
  iintro ⟨⟨#Hctx, ⟨Hbt, Hht, Hat⟩, ⟨Hcb, Hch, Hca⟩, ⟨⟨%f0, H0⟩, ⟨%f1, H1⟩, ⟨%f2, H2⟩, ⟨%f3, H3⟩, ⟨%f4, H4⟩, ⟨%f6, H5⟩⟩, HO, ⟨Hx, Hwq, Hk, Hv, Hwo⟩, Hout⟩, HK⟩
  ihave Hsl := (slabs_split d f4 f6) $$ [H4 H5]
  · isplitl [H4] <;> iassumption
  iapply (wp_pre I N d _ _ (dev1_eq d) (dev2_eq d) f0 W)
  isplitl [Hbt Hcb Hsl HO Hx Hwq H0]
  · isplitr; · iexact Hctx
    isplitl [Hbt Hcb]
    · isplitl [Hbt] <;> iassumption
    isplitl [Hsl]; · iexact Hsl
    isplitl [HO]; · iexact HO
    isplitl [Hx]; · iexact Hx
    isplitl [Hwq] <;> iassumption
  iintro ⟨Hbp, Hz, ⟨%W1, HO⟩, Hx, Hwq, Hq⟩
  iapply (wp_tiles I d f1 f2 (fun _ => tailPrinted d) Q)
  isplitl [Hq Hk Hv H1 H2]
  · isplitl [Hq]; · iexact Hq
    isplitl [Hk]; · iexact Hk
    isplitl [Hv]; · iexact Hv
    isplitl [H1] <;> iassumption
  iintro ⟨Hq, Hk, Hv, H1, H2⟩
  rw [tailPrinted_eq]
  iapply (wp_tail I N d f3 f5 W1 Q)
  isplitl [Hbp Hht Hch Hat Hca HO Hq H1 H2 H3 Hwo Hout]
  · isplitr; · iexact Hctx
    isplitl [Hbp Hht Hch]
    · isplitl [Hbp]; · iexact Hbp
      isplitl [Hht] <;> iassumption
    isplitl [Hat Hca]
    · isplitl [Hat] <;> iassumption
    isplitl [HO]; · iexact HO
    isplitl [Hq]; · iexact Hq
    isplitl [H1]; · iexact H1
    isplitl [H2]; · iexact H2
    isplitl [H3]; · iexact H3
    isplitl [Hwo] <;> iassumption
  iintro ⟨Hscr, ⟨Hz1, Hz2⟩, HO, Hwo, Hout⟩
  iapply HK
  unfold zs
  isplitl [Hscr]; · unfold scr; iexact Hscr
  isplitl [Hz Hz1 Hz2]
  · isplitl [Hz]; · iexact Hz
    isplitl [Hz1] <;> iassumption
  isplitl [HO]; · iexact HO
  isplitr [Hout]
  · isplitl [Hx]; · iexact Hx
    isplitl [Hwq]; · iexact Hwq
    isplitl [Hk]; · iexact Hk
    isplitl [Hv] <;> iassumption
  iexact Hout

end Cert.KernelIdeal.Gen.Attn

end
-- ==== Proof.Launch.lean ====
/- The launch: the pipeline's proof data, the ring's ghost state dealt to the devices, the run of @main. -/
module

public import proofs.«01_k».proof.Proof.Body
public import proofs.«01_k».proof.Proof.Gen.KernelIdeal.Frame
public import Idealize.ShloMosaic.Lib.Pipeline.Frame
public import Idealize.ShloMosaic.Lib.Pipeline.CollectiveSegs

@[expose] public section

set_option maxRecDepth 16384

noncomputable section

namespace Cert.KernelIdeal.Gen.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: any contents, counters at zero, any generator registers. -/
def mem₀ : MemSt nD τ sig (Elt F) := ⟨m, fun _ => 0, ρ⟩

/-- The argument blocks the call stages. -/
def insOf : Ins F where
  x d := (win0_0.blk (0 : Fin 1)).view.read (Elt F) ((mem₀ m ρ).mem ((d : Thread nD τ).loc main_arg0))
  wq d := (win0_1.blk (0 : Fin 1)).view.read (Elt F) ((mem₀ m ρ).mem ((d : Thread nD τ).loc main_arg1))
  k d := (win0_2.blk (0 : Fin 1)).view.read (Elt F) ((mem₀ m ρ).mem ((d : Thread nD τ).loc main_arg2))
  v d := (win0_3.blk (0 : Fin 1)).view.read (Elt F) ((mem₀ m ρ).mem ((d : Thread nD τ).loc main_arg3))
  wo d := (win0_4.blk (0 : Fin 1)).view.read (Elt F) ((mem₀ m ρ).mem ((d : Thread nD τ).loc main_arg4))

/-! ## The pipeline's proof data -/

/-- What a device starts from but its scratch: the ghost state at some names, its credits, the levels. -/
def start (d : Dev nD) : sProp 𝕄 :=
  iprop((∃ N, recs (insOf m ρ) N ∗ lin (F := F) d) ∗ crd (F := F) d ∗ levAts L lv)
def Φ₀ (d : Dev nD) : sProp 𝕄 := iprop(start m ρ d ∗ scr (F := F) d)
/-- After the point: the scratch, every cell closed. -/
def Φ₁ (d : Dev nD) : sProp 𝕄 := iprop(scr (F := F) d ∗ zs (F := F) d)

def dats (_ : Fin 1) (d : Dev nD) : Dat τ (Elt F) Unit ℕ UU ℕ cfg0 d where
  A w := (mem₀ m ρ).mem ((cfg0.win w).arr.view.loc (d : Thread nD τ))
  after w _ := match w with
    | ⟨0, _⟩ => (insOf m ρ).x d
    | ⟨1, _⟩ => (insOf m ρ).wq d
    | ⟨2, _⟩ => (insOf m ρ).k d
    | ⟨3, _⟩ => (insOf m ρ).v d
    | ⟨4, _⟩ => (insOf m ρ).wo d
    | ⟨5, _⟩ => outF (insOf m ρ) d
  Φ t := match t with
    | ⟨0, _⟩ => Φ₀ m ρ d
    | ⟨_ + 1, _⟩ => Φ₁ d
  q _ := fullShare
  owed t := match t with
    | ⟨0, _⟩ => O₀ d
    | ⟨_ + 1, _⟩ => 0

theorem owns_whole_eq (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ pt d b f) := by
  unfold owns; simp only [Memref.view_whole, View.read_whole, View.set_whole]

abbrev stg (d : Dev nD) (b : Ref sig .tc) (X : b.ty.Contents (Elt F)) : sProp 𝕄 :=
  iprop(∃ f : Buf (Elt F) ((d : Thread nD τ).loc b), ⌜f = X⌝ ∗ pt d b f)

/-- What the point's body starts from and leaves. -/
def bodyPre (d : Dev nD) : sProp 𝕄 :=
  iprop(Φ₀ m ρ d ∗ (dats m ρ 0 d).owesAt () (t0_0 : Fin cfg0.N).castSucc
    ∗ (∃ e, stg d cc0_stg0_0 ((dats m ρ 0 d).before (0 : Fin 6) t0_0 e))
    ∗ (∃ e, stg d cc0_stg1_0 ((dats m ρ 0 d).before (1 : Fin 6) t0_0 e))
    ∗ (∃ e, stg d cc0_stg2_0 ((dats m ρ 0 d).before (2 : Fin 6) t0_0 e))
    ∗ (∃ e, stg d cc0_stg3_0 ((dats m ρ 0 d).before (3 : Fin 6) t0_0 e))
    ∗ (∃ e, stg d cc0_stg4_0 ((dats m ρ 0 d).before (4 : Fin 6) t0_0 e))
    ∗ (∃ e, stg d cc0_stg5_0 ((dats m ρ 0 d).before (5 : Fin 6) t0_0 e)))
def bodyPost (d : Dev nD) : sProp 𝕄 :=
  iprop(Φ₁ (F := F) d ∗ (dats m ρ 0 d).owesAt () (t0_0 : Fin cfg0.N).succ
    ∗ stg d cc0_stg0_0 ((insOf m ρ).x d) ∗ stg d cc0_stg1_0 ((insOf m ρ).wq d) ∗ stg d cc0_stg2_0 ((insOf m ρ).k d)
    ∗ stg d cc0_stg3_0 ((insOf m ρ).v d) ∗ stg d cc0_stg4_0 ((insOf m ρ).wo d) ∗ stg d cc0_stg5_0 (outF (insOf m ρ) d))

theorem before_x (d : Dev nD) (e) : (dats m ρ 0 d).before (0 : Fin 6) t0_0 e = (insOf m ρ).x d := by
  unfold Dat.before; rw [if_pos (fetch0_0 t0_0)]; rfl
theorem before_wq (d : Dev nD) (e) : (dats m ρ 0 d).before (1 : Fin 6) t0_0 e = (insOf m ρ).wq d := by
  unfold Dat.before; rw [if_pos (fetch0_1 t0_0)]; rfl
theorem before_k (d : Dev nD) (e) : (dats m ρ 0 d).before (2 : Fin 6) t0_0 e = (insOf m ρ).k d := by
  unfold Dat.before; rw [if_pos (fetch0_2 t0_0)]; rfl
theorem before_v (d : Dev nD) (e) : (dats m ρ 0 d).before (3 : Fin 6) t0_0 e = (insOf m ρ).v d := by
  unfold Dat.before; rw [if_pos (fetch0_3 t0_0)]; rfl
theorem before_wo (d : Dev nD) (e) : (dats m ρ 0 d).before (4 : Fin 6) t0_0 e = (insOf m ρ).wo d := by
  unfold Dat.before; rw [if_pos (fetch0_4 t0_0)]; rfl

theorem sound_body (d : Dev nD) :
    bodyPre m ρ d ⊢ WP d (cc0_body (F := F) mX (Memref.isWhole_whole _) mWq (Memref.isWhole_whole _) mK (Memref.isWhole_whole _) mV (Memref.isWhole_whole _) mWo (Memref.isWhole_whole _) mOut (Memref.isWhole_whole _)
          mQ (Memref.isWhole_whole _) mML (Memref.isWhole_whole _) mO (Memref.isWhole_whole _) mSO (Memref.isWhole_whole _) mRML (Memref.isWhole_whole _) mRO (Memref.isWhole_whole _)
          cc0_scratch6 cc0_scratch7 cc0_scratch8 cc0_scratch9 cc0_scratch10 cc0_scratch11) (fun _ => bodyPost m ρ d) := by
  unfold bodyPre Φ₀ start
  iintro ⟨⟨⟨⟨%N, #Hrec, Hlin⟩, Hcrd, #Hlev⟩, Hscr⟩, Ho, ⟨%e0, %g0, %hg0, H0⟩, ⟨%e1, %g1, %hg1, H1⟩, ⟨%e2, %g2, %hg2, H2⟩, ⟨%e3, %g3, %hg3, H3⟩, ⟨%e4, %g4, %hg4, H4⟩, ⟨%e5, %g5, %hg5, H5⟩⟩
  rw [before_x] at hg0; rw [before_wq] at hg1; rw [before_k] at hg2; rw [before_v] at hg3; rw [before_wo] at hg4
  subst hg0 hg1 hg2 hg3 hg4
  unfold Dat.owesAt Pipeline.owesWithin
  icases Ho with ⟨%W, %hW, HO⟩
  rw [show (dats m ρ 0 d).owed (t0_0 : Fin cfg0.N).castSucc = O₀ d from rfl]
  iapply (wp_body (insOf m ρ) N d g5 W (fun _ => bodyPost m ρ d))
  isplitl [Hlin Hcrd Hscr HO H0 H1 H2 H3 H4 H5]
  · isplitr
    · unfold ctx; isplitr; · iexact Hrec
      iexact Hlev
    isplitl [Hlin]; · iexact Hlin
    isplitl [Hcrd]; · iexact Hcrd
    isplitl [Hscr]; · iexact Hscr
    isplitl [HO]; · iexact HO
    isplitr [H5]
    · unfold stgIn
      isplitl [H0]; · iexact H0
      isplitl [H1]; · iexact H1
      isplitl [H2]; · iexact H2
      isplitl [H3] <;> iassumption
    iexact H5
  unfold stgIn
  iintro ⟨Hscr, Hz, ⟨%W', HO⟩, ⟨H0, H1, H2, H3, H4⟩, H5⟩
  unfold bodyPost Φ₁ Dat.owesAt Pipeline.owesWithin
  rw [show (dats m ρ 0 d).owed (t0_0 : Fin cfg0.N).succ = 0 from rfl]
  isplitl [Hscr Hz]
  · isplitl [Hscr] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- The library's body obligation. -/
theorem body_obligation (d : Dev nD) : BodyObligation (dats (F := F) m ρ 0 d) (defs₀ (F := F)) 𝒱₀ () Set.univ := fun t => by
  rw [fin_N0 t]
  rw [bigSep_W, bigSep_W]
  simp only [owns_whole_eq]
  exact sound_body m ρ d

end Cert.KernelIdeal.Gen.Attn

end
-- ==== Proof.Run.lean ====
/- The run of @main: the ghost state dealt to the devices, the credits they start with, and what every fair execution
   leaves. -/
module

public import proofs.«01_k».proof.Proof.Launch

@[expose] public section

set_option maxRecDepth 16384

noncomputable section

namespace Cert.KernelIdeal.Gen.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and their tokens -/

/-- The kernel's own semaphores: the six families of transfer cells. -/
abbrev osem (ak : Fin 6 × Fin 15) : SemLoc sig := csem (some ak)

set_option maxRecDepth 100000 in
theorem ownSemFacts : Pipeline.OwnSemFacts cfg0.spec osem where
  isScoped := by decide
  inj := fun a b h => Option.some.inj (csem_inj h)
  disj := by decide

theorem share_eq (d : Dev nD) (w : Fin cfg0.W) : (dats m ρ 0 d).share w = fullShare := by unfold Dat.share; split <;> rfl

def ringCells : Finset (GSem nD τ sig) := Finset.univ.map ⟨kcell, kcell_inj⟩

/-- Every duty of every cell, once: a barrier's two, a transfer cell's one. -/
abbrev tokOf (x : Dev nD × (Bool ⊕ Fin 6 × Fin 15)) : GSem nD τ sig × ℕ × Bool := match x.2 with
  | .inl b => (barC x.1, 0, b)
  | .inr ak => (kcell (x.1, some ak), 0, false)
theorem tokOf_inj : Function.Injective tokOf := by
  rintro ⟨c, j⟩ ⟨c', j'⟩ h
  have hc : (tokOf (c, j)).1 = (tokOf (c', j')).1 := congrArg Prod.fst h
  have hb : (tokOf (c, j)).2.2 = (tokOf (c', j')).2.2 := congrArg (fun x => x.2.2) h
  rcases j with b | ak <;> rcases j' with b' | ak'
  · have h1 : (c, (none : CIdx)) = (c', none) := kcell_inj hc
    have hb' : b = b' := hb
    have hc' : c = c' := congrArg Prod.fst h1
    rw [hb', hc']
  · have h1 : (c, (none : CIdx)) = (c', some ak') := kcell_inj hc
    exact absurd (congrArg Prod.snd h1) (by simp)
  · have h1 : (c, (some ak : CIdx)) = (c', none) := kcell_inj hc
    exact absurd (congrArg Prod.snd h1) (by simp)
  · have h1 : (c, (some ak : CIdx)) = (c', some ak') := kcell_inj hc
    have h2 : ak = ak' := Option.some.inj (congrArg Prod.snd h1)
    have hc' : c = c' := congrArg Prod.fst h1
    rw [h2, hc']
def ringToks : Finset (GSem nD τ sig × ℕ × Bool) := Finset.univ.map ⟨tokOf, tokOf_inj⟩

def u₀ : UU :=
  (initOf (Pipeline.cells cfgs cellOf_inj) (Pipeline.launchToks cfgs cellOf_inj), initOf ringCells ringToks)

/-- The tokens of a device's own cells: the barrier's, the families'. -/
def famToks (a : Fin 6) (d : Dev nD) : sProp 𝕄 := bigSep Finset.univ fun k : Fin 15 => dutyTok ER (xfC d a k) 0 false
def toks (d : Dev nD) : sProp 𝕄 :=
  iprop((dutyTok ER (barC d) 0 false ∗ dutyTok ER (barC d) 0 true)
    ∗ famToks (F := F) 0 d ∗ famToks (F := F) 1 d ∗ famToks (F := F) 2 d ∗ famToks (F := F) 3 d ∗ famToks (F := F) 4 d ∗ famToks (F := F) 5 d)

/-- What the launch element deals a device, and what the global step makes of it. -/
def G (d : Dev nD) : sProp 𝕄 :=
  iprop((bigSep Finset.univ fun i : CIdx => roundState ER (Rd (insOf m ρ)) (kcell (d, i)) 0)
    ∗ (bigSep Finset.univ fun i : CIdx => iprop(atPos ER (kcell (d, i)) 0 ∅ 0 ∗ reached ER (kcell (d, i)) 0)) ∗ toks (F := F) d)
def G' (d : Dev nD) : sProp 𝕄 := iprop(∃ N, recs (insOf m ρ) N ∗ lin (F := F) d)

theorem bigSep_fam (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_bool (Φ : Bool → sProp 𝕄) : bigSep Finset.univ Φ = iprop(Φ false ∗ Φ true) :=
  bigSep_univ_eq_bigSepL [false, true] (by decide) (by decide) Φ
theorem bigSep_opt (Φ : CIdx → sProp 𝕄) : bigSep Finset.univ Φ = iprop(Φ none ∗ bigSep Finset.univ fun ak : Fin 6 × Fin 15 => Φ (some ak)) := by
  have h : (Finset.univ : Finset CIdx) = insert none ((Finset.univ : Finset (Fin 6 × Fin 15)).map Function.Embedding.some) := by
    ext i; rcases i with _ | ak <;> simp
  rw [h, bigSep_insert (by simp), bigSep_map]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun d : Dev nD => bigSep Finset.univ fun i : CIdx => Φ (kcell (d, i)) := by
    unfold ringCells; rw [bigSep_map, bigSep_univ_prod]; rfl
  have hT : bigSep ringToks (fun x => (dutyTok ER x.1 x.2.1 x.2.2 : sProp 𝕄)) = bigSep Finset.univ fun d : Dev nD => toks (F := F) d := by
    unfold ringToks; rw [bigSep_map, bigSep_univ_prod]
    refine bigSep_congr fun d _ => ?_
    rw [bigSep_univ_sum, bigSep_bool, bigSep_univ_prod, bigSep_fam]; rfl
  iintro HX
  imod (Rounds.fund ER (Rd (insOf m ρ)) ringCells ringToks) $$ HX with ⟨Hst, Hr, Hat, Htok⟩
  imodintro
  ihave Hst' := (Entails.of_eq (hX fun g => roundState ER (Rd (insOf m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (d : Dev nD) : (unscopedSems0 d : sProp 𝕄) = semVal (barC d) 0 := by
  unfold unscopedSems0; rw [bigSep_eq_bigSepL_of_eq [SemLoc.reg barS] (by decide) (by decide)]; rfl

theorem sems0_eq (d : Dev nD) :
    iprop(Pipeline.ownSems0 (Ix := Unit) (Name := ℕ) (U := UU) (Lvl := ℕ) (Val := Elt F) (τ := τ) osem d ∗ unscopedSems0 d)
      ⊢ (bigSep Finset.univ fun i : CIdx => semVal (kcell (d, i)) 0 : sProp 𝕄) := by
  rw [unscopedSems0_eq, bigSep_opt]
  unfold Pipeline.ownSems0
  iintro ⟨HS, HB⟩
  isplitl [HB] <;> iassumption

theorem core_alloc (d : Dev nD) :
    iprop(Pipeline.ownSems0 (Ix := Unit) (Name := ℕ) (U := UU) (Lvl := ℕ) (Val := Elt F) (τ := τ) osem d ∗ unscopedSems0 d ∗ G m ρ d)
      ⊢ |={Set.univ}=> iprop((bigSep Finset.univ fun i : CIdx => iprop(∃ κ : ℕ, cellInv ER (Rd (insOf m ρ)) κ (kcell (d, i))))
          ∗ (bigSep Finset.univ fun i : CIdx => iprop(atPos ER (kcell (d, i)) 0 ∅ 0 ∗ reached ER (kcell (d, i)) 0)) ∗ toks (F := F) d) := by
  unfold G
  iintro ⟨Hos, Hus, Hst, Hat, Htok⟩
  ihave Hv := (sems0_eq (F := F) d) $$ [Hos Hus]
  · isplitl [Hos] <;> iassumption
  imod (show iprop((bigSep Finset.univ fun i : CIdx => semVal (kcell (d, i)) 0) ∗ bigSep Finset.univ fun i : CIdx => roundState ER (Rd (insOf m ρ)) (kcell (d, i)) 0)
      ⊢ (|={Set.univ}=> bigSep Finset.univ fun i : CIdx => iprop(∃ κ : ℕ, cellInv ER (Rd (insOf m ρ)) κ (kcell (d, i))) : sProp 𝕄) from by
        rw [← bigSep_sep']
        exact (bigSep_mono fun i _ => (Rounds.body_intro ER (Rd (insOf m ρ)) (kcell (d, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

def ring : Dev nD ≃ Dev nD := ⟨nxt, prv, prv_nxt, nxt_prv⟩

/-- The duties a device pays. -/
def payToks (d : Dev nD) : sProp 𝕄 :=
  iprop((dutyTok ER (barC (nxt d)) 0 false ∗ dutyTok ER (barC (prv d)) 0 true)
    ∗ famToks (F := F) 0 d ∗ famToks (F := F) 1 (nxt d) ∗ famToks (F := F) 2 d ∗ famToks (F := F) 3 (nxt d) ∗ famToks (F := F) 4 d ∗ famToks (F := F) 5 (nxt d))

theorem toks_around : (bigSep Finset.univ fun d : Dev nD => toks (F := F) d) ⊢ bigSep Finset.univ fun d : Dev nD => payToks (F := F) d := by
  unfold toks payToks
  simp only [bigSep_sep']
  rw [bigSep_univ_equiv ring (fun d : Dev nD => (dutyTok ER (barC d) 0 false : sProp 𝕄)),
    bigSep_univ_equiv ring.symm (fun d : Dev nD => (dutyTok ER (barC d) 0 true : sProp 𝕄)),
    bigSep_univ_equiv ring (fun d : Dev nD => famToks (F := F) 1 d), bigSep_univ_equiv ring (fun d : Dev nD => famToks (F := F) 3 d),
    bigSep_univ_equiv ring (fun d : Dev nD => famToks (F := F) 5 d)]
  exact Entails.rfl

/-- A device's positions and the duties it pays are what its body uses up. -/
theorem lin_intro (d : Dev nD) : iprop((bigSep Finset.univ fun i : CIdx => atPos ER (kcell (d, i)) 0 ∅ 0) ∗ payToks (F := F) d) ⊢ lin (F := F) d := by
  rw [bigSep_opt, bigSep_univ_prod, bigSep_fam]
  unfold lin payToks famToks hopTok agTok barTok
  simp only [bigSep_sep']
  iintro ⟨⟨Hb, A0, A1, A2, A3, A4, A5⟩, ⟨Tf, Tt⟩, T0, T1, T2, T3, T4, T5⟩
  isplitl [Hb Tf Tt]
  · isplitl [Hb]; · iexact Hb
    isplitl [Tf] <;> iassumption
  isplitl [A0 A1 A2 A3 T0 T1 T2 T3]
  · isplitl [A0 A1 A2 A3]
    · isplitl [A0]; · iexact A0
      isplitl [A1]; · iexact A1
      isplitl [A2] <;> iassumption
    · isplitl [T0]; · iexact T0
      isplitl [T1]; · iexact T1
      isplitl [T2] <;> iassumption
  isplitl [A4 A5]
  · isplitl [A4] <;> iassumption
  · isplitl [T4] <;> iassumption

theorem bigSep_with {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (N : Dev nD × CIdx → ℕ) (d : Dev nD) :
    iprop(recs (insOf m ρ) N ∗ ((bigSep Finset.univ fun i : CIdx => atPos ER (kcell (d, i)) 0 ∅ 0) ∗ payToks (F := F) d)) ⊢ G' m ρ d := by
  unfold G'
  iintro ⟨HR, HL⟩
  iexists N
  isplitl [HR]; · iexact HR
  iapply (lin_intro d); iexact HL

theorem regroup :
    (bigSep Finset.univ fun d : Dev nD => iprop((bigSep Finset.univ fun i : CIdx => iprop(∃ κ : ℕ, cellInv ER (Rd (insOf m ρ)) κ (kcell (d, i))))
          ∗ (bigSep Finset.univ fun i : CIdx => iprop(atPos ER (kcell (d, i)) 0 ∅ 0 ∗ reached ER (kcell (d, i)) 0)) ∗ toks (F := F) d) : sProp 𝕄)
      ⊢ bigSep Finset.univ (G' m ρ) := by
  rw [bigSep_sep', bigSep_sep', ← bigSep_univ_prod (fun ci : Dev nD × CIdx => iprop(∃ κ : ℕ, cellInv ER (Rd (insOf m ρ)) κ (kcell ci))),
    bigSep_congr (s := Finset.univ) (fun (d : Dev nD) _ => bigSep_sep' Finset.univ (fun i : CIdx => (atPos ER (kcell (d, i)) 0 ∅ 0 : sProp 𝕄)) (fun i => reached ER (kcell (d, i)) 0)),
    bigSep_sep', ← bigSep_univ_prod (fun ci : Dev nD × CIdx => (reached ER (kcell ci) 0 : sProp 𝕄))]
  iintro ⟨HI, ⟨Hat, #HR⟩, Htok⟩
  ihave HK := (BI.bigSep_exists_pi Finset.univ (fun (ci : Dev nD × CIdx) (κ : ℕ) => (cellInv ER (Rd (insOf m ρ)) κ (kcell ci) : sProp 𝕄))) $$ HI
  icases HK with ⟨%N, #HI⟩
  ihave Htk := (toks_around (F := F)) $$ Htok
  iapply (bigSep_with (R := recs (insOf m ρ) N) fun d _ => ghost_intro m ρ N d)
  isplitr
  · unfold recs
    rw [bigSep_sep']
    isplitl; · iexact HI
    iexact HR
  · rw [bigSep_sep']
    isplitl [Hat]; · iexact Hat
    iexact Htk

/-- The global step: own and unscoped semaphores of every device at once. -/
theorem glob : (bigSep Finset.univ fun d => iprop(Pipeline.ownSems0 (Ix := Unit) (Name := ℕ) (U := UU) (Lvl := ℕ) (Val := Elt F) (τ := τ) osem d ∗ unscopedSems0 d ∗ G m ρ d) : sProp 𝕄)
    ⊢ |={Set.univ}=> bigSep Finset.univ (G' m ρ) :=
  ((bigSep_mono fun d _ => core_alloc m ρ d).trans (bigSep_fupd _ _)).trans (BI.fupd_mono (regroup m ρ))

/-! ## The launch credit -/

/-- A cell's tally at a cell. -/
theorem tally_cell (c c' : Dev nD) (i i' : CIdx) (n : ℕ) : tallyAt (kcell (c', i')) () n (kcell (c, i)) () = if c = c' ∧ i = i' then n else 0 := by
  rw [tallyAt_apply]
  by_cases h : c = c' ∧ i = i'
  · rw [if_pos h, if_pos ⟨by rw [h.1, h.2], rfl⟩]
  · rw [if_neg h, if_neg]
    rintro ⟨h1, -⟩
    have := kcell_inj h1
    exact h ⟨congrArg Prod.fst this, congrArg Prod.snd this⟩

/-- What the last `n` hops owe at a cell of the right neighbour. -/
def wAG (n : ℕ) : CIdx → ℕ
  | some (5, k) => if 15 ≤ k.val + n then amtF 5 else 0
  | _ => 0
def wRS (n : ℕ) : CIdx → ℕ
  | some (1, k) => if 15 ≤ k.val + n then amtF 1 else 0
  | some (3, k) => if 15 ≤ k.val + n then amtF 3 else 0
  | i => wAG 15 i
theorem amt_step (k n A : ℕ) {p : Prop} [Decidable p] (hn : n + 1 ≤ 15) (hp : p ↔ k = 14 - n) :
    (if 15 ≤ k + n then A else 0) + (if p then A else 0) = if 15 ≤ k + (n + 1) then A else 0 := by
  by_cases h : p
  · have := hp.mp h; rw [if_neg (by omega), if_pos h, if_pos (by omega), Nat.zero_add]
  · have h1 : k ≠ 14 - n := fun e => h (hp.mpr e)
    rw [if_neg h, Nat.add_zero]
    by_cases h2 : 15 ≤ k + n
    · rw [if_pos h2, if_pos (by omega)]
    · rw [if_neg h2, if_neg (by omega)]
theorem oAG_at (d c : Dev nD) (i : CIdx) : ∀ n, n ≤ 15 → oAG d n (kcell (c, i)) () = if c = nxt d then wAG n i else 0
  | 0, _ => by
    show 0 = _
    have h : wAG 0 i = 0 := by
      unfold wAG; split
      · exact if_neg (by omega)
      · rfl
    rw [h]; split <;> rfl
  | n + 1, h => by
    have e : oAG d (n + 1) = oAG d n + tallyAt (kcell (nxt d, some (5, Fin.ofNat 15 (14 - n)))) () (amtF 5) := rfl
    rw [e]
    rw [Pi.add_apply, Finsupp.add_apply, oAG_at d c i n (by omega), tally_cell]
    by_cases hc : c = nxt d
    · rw [if_pos hc, if_pos hc]
      unfold wAG
      split
      · rename_i k
        have hk : (some ((5 : Fin 6), k) : CIdx) = some (5, Fin.ofNat 15 (14 - n)) ↔ k.val = 14 - n := by
          rw [Option.some.injEq, Prod.mk.injEq, Fin.ext_iff (a := k)]
          show 5 = 5 ∧ k.val = (14 - n) % 15 ↔ _
          constructor
          · rintro ⟨-, h⟩; omega
          · intro h; exact ⟨rfl, by omega⟩
        exact amt_step k.val n (amtF 5) h (by rw [hk]; exact ⟨And.right, fun h => ⟨hc, h⟩⟩)
      · rename_i hne
        rw [if_neg]
        rintro ⟨-, h⟩
        exact hne _ h
    · rw [if_neg hc, if_neg (fun h => hc h.1), if_neg hc]
theorem oRS_at (d c : Dev nD) (i : CIdx) : ∀ n, n ≤ 15 → oRS d n (kcell (c, i)) () = if c = nxt d then wRS n i else 0
  | 0, _ => by
    show oAG d 15 _ _ = _
    rw [oAG_at d c i 15 le_rfl]
    have h : wRS 0 i = wAG 15 i := by
      unfold wRS; split
      · rw [if_neg (by omega)]; rfl
      · rw [if_neg (by omega)]; rfl
      · rfl
    rw [h]
  | n + 1, h => by
    have e : oRS d (n + 1) = oRS d n + tallyAt (kcell (nxt d, some (3, Fin.ofNat 15 (14 - n)))) () (amtF 3)
        + tallyAt (kcell (nxt d, some (1, Fin.ofNat 15 (14 - n)))) () (amtF 1) := rfl
    rw [e]
    rw [Pi.add_apply, Finsupp.add_apply, Pi.add_apply, Finsupp.add_apply, oRS_at d c i n (by omega), tally_cell, tally_cell]
    by_cases hc : c = nxt d
    · rw [if_pos hc, if_pos hc]
      have hk : ∀ (a b : Fin 6) (k : Fin 15), (some (a, k) : CIdx) = some (b, Fin.ofNat 15 (14 - n)) ↔ a = b ∧ k.val = 14 - n := fun a b k => by
        rw [Option.some.injEq, Prod.mk.injEq, Fin.ext_iff (a := k)]
        show a = b ∧ k.val = (14 - n) % 15 ↔ _
        constructor
        · rintro ⟨h0, h⟩; exact ⟨h0, by omega⟩
        · rintro ⟨h0, h⟩; exact ⟨h0, by omega⟩
      unfold wRS
      split
      · rename_i k
        rw [if_neg (show ¬ (c = nxt d ∧ (some ((1 : Fin 6), k) : CIdx) = some (3, Fin.ofNat 15 (14 - n))) from fun h => absurd ((hk _ _ _).mp h.2).1 (by decide))]
        exact amt_step k.val n (amtF 1) h (by rw [hk]; exact ⟨fun h => h.2.2, fun h => ⟨hc, rfl, h⟩⟩)
      · rename_i k
        rw [if_neg (show ¬ (c = nxt d ∧ (some ((3 : Fin 6), k) : CIdx) = some (1, Fin.ofNat 15 (14 - n))) from fun h => absurd ((hk _ _ _).mp h.2).1 (by decide))]
        exact amt_step k.val n (amtF 3) h (by rw [hk]; exact ⟨fun h => h.2.2, fun h => ⟨hc, rfl, h⟩⟩)
      · rename_i hne1 hne3
        rw [if_neg (fun h => hne3 _ h.2), if_neg (fun h => hne1 _ h.2)]; rfl
    · rw [if_neg hc, if_neg (fun h => hc h.1), if_neg (fun h => hc h.1), if_neg hc]

/-- What device `d` owes device `c`'s cells at launch. -/
theorem owed_xf (d c : Dev nD) (a : Fin 6) (k : Fin 15) : O₀ d (xfC c a k) () = if d = prv c then wRS 15 (some (a, k)) else 0 := by
  unfold O₀
  rw [Pi.add_apply, Finsupp.add_apply, Pi.add_apply, Finsupp.add_apply, tally_cell, tally_cell, oRS_at d c _ 15 le_rfl,
    if_neg (show ¬ (c = prv d ∧ (some (a, k) : CIdx) = none) from fun h => absurd h.2 (by simp)),
    if_neg (show ¬ (c = nxt d ∧ (some (a, k) : CIdx) = none) from fun h => absurd h.2 (by simp))]
  show (if c = nxt d then _ else 0) = _
  by_cases h : d = prv c
  · subst h; rw [nxt_prv, if_pos rfl, if_pos rfl]
  · rw [if_neg h, if_neg]; intro h'; subst h'; exact h (prv_nxt d).symm
theorem owed_bar (d c : Dev nD) : O₀ d (barC c) () = (if d = prv c then 1 else 0) + (if d = nxt c then 1 else 0) := by
  unfold O₀
  rw [Pi.add_apply, Finsupp.add_apply, Pi.add_apply, Finsupp.add_apply, tally_cell, tally_cell, oRS_at d c _ 15 le_rfl]
  have h0 : wRS 15 none = 0 := rfl
  rw [h0, ite_self, Nat.zero_add]
  congr 1
  · by_cases h : d = prv c
    · subst h; rw [nxt_prv, if_pos ⟨rfl, rfl⟩, if_pos rfl]
    · rw [if_neg h, if_neg]; rintro ⟨h', -⟩; subst h'; exact h (prv_nxt d).symm
  · by_cases h : d = nxt c
    · subst h; rw [prv_nxt, if_pos ⟨rfl, rfl⟩, if_pos rfl]
    · rw [if_neg h, if_neg]; rintro ⟨h', -⟩; subst h'; exact h (nxt_prv d).symm

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_xf (c : Dev nD) (a : Fin 6) (k : Fin 15) (h : wRS 15 (some (a, k)) = amtF a) :
    tallyOn (xfC c a k) (launchCredit (Pipeline.owing O₀) 0 (xfC c a k)) = (tallyAt (xfC c a k) () (amtF a) : CellTallies nD τ sig Unit) := by
  unfold tallyAt; refine congrArg _ (Finsupp.ext fun u => ?_); cases u
  rw [Pipeline.launchCredit_owing, Finsupp.single_eq_same, Finset.sum_congr rfl fun d _ => owed_xf d c a k,
    Finset.sum_ite_eq' Finset.univ (prv c) fun _ => _, if_pos (Finset.mem_univ _), h]

/-- The credits of a device's cells, out of all its semaphores'. -/
theorem creds_cells (c : Dev nD) : (Pipeline.launchCred O₀ c : sProp 𝕄)
    ⊢ bigSep Finset.univ fun i : CIdx => cred (tallyOn (kcell (c, i)) (launchCredit (Pipeline.owing O₀) 0 (kcell (c, i)))) := by
  unfold Pipeline.launchCred
  have e (Φ : SemLoc sig → sProp 𝕄) : bigSep (Finset.univ.map ⟨csem, csem_inj⟩) Φ = bigSep Finset.univ fun i : CIdx => Φ (csem i) := by rw [bigSep_map]; rfl
  refine BI.Entails.trans (bigSep_subset (t := Finset.univ.map ⟨csem, csem_inj⟩) (Finset.subset_univ _)) ?_
  rw [e]; exact (Entails.of_eq rfl : (_ : sProp 𝕄) ⊢ _)

theorem creds (c : Dev nD) : (Pipeline.launchCred O₀ c : sProp 𝕄) ⊢ crd (F := F) c := by
  refine (creds_cells c).trans ?_
  rw [bigSep_opt, bigSep_univ_prod, bigSep_fam, launch_bar]
  unfold crd crdRS crdAG
  rw [bigSep_sep']
  have e (a : Fin 6) (h : ∀ k, wRS 15 (some (a, k)) = amtF a) :
      (bigSep Finset.univ fun k : Fin 15 => (cred (tallyOn (xfC c a k) (launchCredit (Pipeline.owing O₀) 0 (xfC c a k))) : sProp 𝕄))
        = bigSep Finset.univ fun k : Fin 15 => cred (tallyAt (xfC c a k) () (amtF a)) :=
    bigSep_congr fun k _ => by rw [launch_xf c a k (h k)]
  have h1 := e 1 fun k => by unfold wRS; exact if_pos (Nat.le_add_left 15 k.val)
  have h3 := e 3 fun k => by unfold wRS; exact if_pos (Nat.le_add_left 15 k.val)
  have h5 := e 5 fun k => by unfold wRS; unfold wAG; exact if_pos (Nat.le_add_left 15 k.val)
  rw [← h1, ← h3, ← h5]
  iintro ⟨HB, -, H1, -, H3, -, H5⟩
  isplitl [HB]; · iexact HB
  isplitl [H1 H3]
  · isplitl [H1] <;> iassumption
  iexact H5

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  icases HG with ⟨%N, HR, HL⟩
  isplitl
  · isplitl [HR HL]
    · iexists N; isplitl [HR] <;> iassumption
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold scr; iexact Hr

/-- The counters a body leaves at zero, family by family. -/
theorem zs_exit (c : Dev nD) : zs (F := F) c
    ⊢ iprop(unscopedSems0 c ∗ Pipeline.ownSems0 (Ix := Unit) (Name := ℕ) (U := UU) (Lvl := ℕ) (Val := Elt F) (τ := τ) osem c) := by
  have e : (Pipeline.ownSems0 (Ix := Unit) (Name := ℕ) (U := UU) (Lvl := ℕ) (Val := Elt F) (τ := τ) osem c : sProp 𝕄)
      = bigSep Finset.univ fun a : Fin 6 => bigSep Finset.univ fun k : Fin 15 => semVal (xfC c a k) 0 := by
    unfold Pipeline.ownSems0; rw [bigSep_univ_prod]
  rw [e, bigSep_fam, unscopedSems0_eq]
  unfold zs zRS agDone
  simp only [bigSep_sep']
  iintro ⟨HB, ⟨H0, H1, H2, H3⟩, H4, H5⟩
  isplitl [HB]; · iexact HB
  isplitl [H0]; · iexact H0
  isplitl [H1]; · iexact H1
  isplitl [H2]; · iexact H2
  isplitl [H3]; · iexact H3
  isplitl [H4] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  ihave Hz' := (zs_exit c) $$ Hz
  icases Hz' with ⟨HB, HS⟩
  isplitl [HB]; · iexact HB
  isplitl [HS]; · iexact HS
  unfold scr; iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_of c _ (n := 0) ?_ (above_O₀ c)
      fin_cases w <;> fin_cases s <;> decide
    · show levAts L lv ⊢ MayWait (c : Thread nD τ) _ () (0 : CellTallies nD τ sig Unit)
      rw [MayWait_zero]; iintro -; iempintro

/-! ## The run -/

/-- What a window's array holds when the kernel has returned. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, every weakly fair execution of @main ends, each window's array at its
    computed contents and every counter back at zero. -/
theorem run_main : θ_run defs (onTc (τ := τ) (main (F := F))) (mem₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gen.Attn

end
-- ==== Proof.Same.lean ====
/- The printed kernel and its idealized print are one program at the bit-exact instance, where the named constant is read
   as the word it stands for. -/
module

public import proofs.«01_k».proof.Proof.Gen.Kernel
public import proofs.«01_k».proof.Proof.Gen.KernelIdeal
public import Idealize.ShloMosaic.PureOps.BitExact

@[expose] public section

set_option maxRecDepth 65536

noncomputable section

namespace Cert.KernelIdeal.Gen.Attn

open Idealize.ShloMosaic Idealize.SL.Sem

/-- At the bit-exact instance a named constant is its word. -/
instance namedBits : Named Bits where
  named _ _ {φ} bits := FloatOps.ofBits φ bits

set_option maxHeartbeats 4000000 in
/-- The two programs' kernels agree. -/
theorem kernels_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

set_option maxHeartbeats 4000000 in
/-- So do their calls. -/
theorem defs_same : Cert.Kernel.defs (F := Bits) = Cert.KernelIdeal.defs (F := Bits) := by
  unfold Cert.Kernel.defs Cert.KernelIdeal.defs
  rw [kernels_same]; rfl

set_option maxHeartbeats 4000000 in
/-- And their host programs. -/
theorem main_same : Cert.Kernel.main (F := Bits) = Cert.KernelIdeal.main (F := Bits) := rfl

end Cert.KernelIdeal.Gen.Attn

end
-- ==== Proof.Frames.lean ====
/- What the run leaves: the arguments as they were, the result array at the computed contents, the counters at zero;
   for the idealized print at any float values, and for the kernel as printed at the bit-exact ones. -/
module

public import proofs.«01_k».proof.Proof.Run
public import proofs.«01_k».proof.Proof.Same
public import proofs.«01_k».proof.Defs

@[expose] public section

set_option maxRecDepth 65536

noncomputable section

namespace Cert.KernelIdeal.Gen.Attn

open Idealize.ShloMosaic Idealize.ShloMosaic.TcCoe Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The arguments of every device, as its memory holds them. -/
def argsOf : Ins F where
  x c := m ((c : Thread nD τ).loc main_arg0)
  wq c := m ((c : Thread nD τ).loc main_arg1)
  k c := m ((c : Thread nD τ).loc main_arg2)
  v c := m ((c : Thread nD τ).loc main_arg3)
  wo c := m ((c : Thread nD τ).loc main_arg4)
/-! A window's one block is its whole array. -/

theorem read_0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_2 (f : main_arg2.ty.Contents (Elt F)) : (win0_2.blk (0 : Fin 1)).view.read (Elt F) f = f :=
  Memref.read_access_unit_zero (Elt F) main_arg2 (funext fun a => by fin_cases a <;> decide) (fun a => by fin_cases a <;> decide) f
theorem read_3 (f : main_arg3.ty.Contents (Elt F)) : (win0_3.blk (0 : Fin 1)).view.read (Elt F) f = f :=
  Memref.read_access_unit_zero (Elt F) main_arg3 (funext fun a => by fin_cases a <;> decide) (fun a => by fin_cases a <;> decide) f
theorem read_4 (f : main_arg4.ty.Contents (Elt F)) : (win0_4.blk (0 : Fin 1)).view.read (Elt F) f = f :=
  Memref.read_access_unit_zero (Elt F) main_arg4 (funext fun a => by fin_cases a <;> decide) (fun a => by fin_cases a <;> decide) f
theorem read_5 (f : main_v1.ty.Contents (Elt F)) : (win0_5.blk (0 : Fin 1)).view.read (Elt F) f = f :=
  Memref.read_access_unit_zero (Elt F) main_v1 (funext fun a => by fin_cases a <;> decide) (fun a => by fin_cases a <;> decide) f

theorem insOf_eq : insOf m ρ = argsOf m := by
  unfold insOf argsOf mem₀
  exact congr (congr (congr (congr (congrArg Ins.mk (funext fun _ => read_0 _)) (funext fun _ => read_1 _))
    (funext fun _ => read_2 _)) (funext fun _ => read_3 _)) (funext fun _ => read_4 _)

theorem finalA_0 (c : Dev nD) : finalA m ρ c (0 : Fin 6) = m ((c : Thread nD τ).loc main_arg0) := (dats m ρ 0 c).arrAt_in (0 : Fin 6) rfl _
theorem finalA_1 (c : Dev nD) : finalA m ρ c (1 : Fin 6) = m ((c : Thread nD τ).loc main_arg1) := (dats m ρ 0 c).arrAt_in (1 : Fin 6) rfl _
theorem finalA_2 (c : Dev nD) : finalA m ρ c (2 : Fin 6) = m ((c : Thread nD τ).loc main_arg2) := (dats m ρ 0 c).arrAt_in (2 : Fin 6) rfl _
theorem finalA_3 (c : Dev nD) : finalA m ρ c (3 : Fin 6) = m ((c : Thread nD τ).loc main_arg3) := (dats m ρ 0 c).arrAt_in (3 : Fin 6) rfl _
theorem finalA_4 (c : Dev nD) : finalA m ρ c (4 : Fin 6) = m ((c : Thread nD τ).loc main_arg4) := (dats m ρ 0 c).arrAt_in (4 : Fin 6) rfl _
theorem finalA_5 (c : Dev nD) : finalA m ρ c (5 : Fin 6) = outF (argsOf m) c := by
  have h : (win0_5.blk (0 : Fin 1)).view.read (Elt F) (finalA m ρ c (5 : Fin 6)) = outF (insOf m ρ) c := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from by decide, if_pos rfl]
    exact View.read_write_univ _ _
  rw [← insOf_eq m ρ]
  exact (read_5 _).symm.trans h

/-- Every fair execution leaves the result array of each device at its computed contents, its arguments unchanged and
    every counter at zero. -/
theorem run_values : θ_run (defs (F := F)) (onTc (τ := τ) (main (F := F))) ⟨m, fun _ => 0, ρ⟩ (fun r =>
    (∀ c : Dev nD, r.2.mem ((c.tc : Thread nD τ).loc main_v1) = outF (argsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine (θ_run defs _ _).mono (fun r h => ?_) (run_main m ρ)
  obtain ⟨h, hs⟩ := h
  exact ⟨fun c => ⟨(h c 5).trans (finalA_5 m ρ c), (h c 0).trans (finalA_0 m ρ c), (h c 1).trans (finalA_1 m ρ c), (h c 2).trans (finalA_2 m ρ c),
    (h c 3).trans (finalA_3 m ρ c), (h c 4).trans (finalA_4 m ρ c)⟩, hs⟩

/-! ## The frames and the rewrite -/

/-- The idealized print's frame. -/
theorem frame_ideal : Cert.quiescent_KernelIdeal := fun m ρ _ =>
  (θ_run defs _ _).mono (fun _ h => ⟨fun c => (h.1 c).2, h.2⟩) (run_values (F := Ideal) m ρ)

/-- The printed kernel's frame, the bit-exact instance of the same run. -/
theorem frame_kernel : Cert.quiescent_Kernel := fun m ρ _ => by
  rw [defs_same, main_same]
  exact (θ_run defs _ _).mono (fun _ h => ⟨fun c => (h.1 c).2, h.2⟩) (run_values (F := Bits) m ρ)

/-- The one rewrite: the mask's literal and its name. -/
theorem rewrite_ok : Cert.preserves_Kernel_KernelIdeal :=
  IdealRules.named_const.statement Cert.KernelIdeal.κ "mask" .f32 0xCE6E6B28#32 ⊥ rfl

end Cert.KernelIdeal.Gen.Attn

end
-- ==== Proof.PayVal.lean ====
/- The kernel's payloads read at an index, over the extended reals. -/
module

public import proofs.«01_k».proof.Proof.Vals
public import Idealize.ShloMosaic.Lib.Pointwise

@[expose] public section

set_option maxRecDepth 16384

noncomputable section

namespace Cert.KernelIdeal.Gen.Attn

open Idealize.ShloMosaic Idealize.ShloMosaic.TcCoe

/-- The scores' scale. -/
def SC : EReal := Ideal.ofBits .f32 0x3DB504F3#32

theorem ninf_eq : Ideal.ofBits .f32 0xFF800000#32 = (⊥ : EReal) := by simp [Ideal.ofBits, Ideal.ieee]

/-- A maximum folded from `⊥` is the supremum. -/
theorem fold_max_sup {n : ℕ} (f : Fin n → EReal) : Finset.fold max (Ideal.ofBits .f32 0xFF800000#32) f Finset.univ = Finset.univ.sup f := by
  rw [ninf_eq]; rfl

section Local
variable (mask : FVec Ideal S128x2048 .f32) (q : Vec Ideal S128x128 .bf16) (k v : Vec Ideal S2048x1x128 .bf16)

/-- A masked score: the scaled product of the query and the key, plus the mask. -/
theorem pay3_at (i : Fin 128) (j : Fin 2048) : k0_pay3 mask q k (ValueIdx.ix2 i j)
    = (∑ x : Fin 128, q (ValueIdx.ix2 i x) * k (ValueIdx.ix3 j 0 x)) * SC + mask (ValueIdx.ix2 i j) := by
  rw [← ix2_eq_valueIdx i j]
  pointwise [k0_pay3]
  simp only [ix2_eq_valueIdx, ix3_eq_valueIdx]
  rfl

/-- A row's maximum score, -/
theorem pay6_at (i : Fin 128) (z : Fin 1) : k0_pay6 mask q k (ValueIdx.ix2 i z) = Finset.univ.sup fun j : Fin 2048 => k0_pay3 mask q k (ValueIdx.ix2 i j) := by
  rw [← ix2_eq_valueIdx i z]
  pointwise [k0_pay6, k0_pay4]
  rw [fold_max_sup]
  simp only [ix2_eq_valueIdx]

/-- the sum of the exponentials below it, -/
theorem pay7_at (i : Fin 128) (z : Fin 1) : k0_pay7 mask q k (ValueIdx.ix2 i z)
    = ∑ j : Fin 2048, Ideal.exp (k0_pay3 mask q k (ValueIdx.ix2 i j) - Finset.univ.sup fun j : Fin 2048 => k0_pay3 mask q k (ValueIdx.ix2 i j)) := by
  rw [← ix2_eq_valueIdx i z]
  pointwise [k0_pay7, k0_pay5, k0_pay4]
  rw [fold_max_sup]
  simp only [ix2_eq_valueIdx]

/-- and the values weighted by them. -/
theorem pay8_at (i e : Fin 128) : k0_pay8 mask q k v (ValueIdx.ix2 i e)
    = ∑ j : Fin 2048, Ideal.exp (k0_pay3 mask q k (ValueIdx.ix2 i j) - Finset.univ.sup fun j : Fin 2048 => k0_pay3 mask q k (ValueIdx.ix2 i j)) * v (ValueIdx.ix3 j 0 e) := by
  rw [← ix2_eq_valueIdx i e]
  pointwise [k0_pay8, k0_pay5, k0_pay4]
  rw [fold_max_sup]
  simp only [ix2_eq_valueIdx, ix3_eq_valueIdx]
end Local

section Hop
variable (x : Vec Ideal S128x16 .f32) (y : Vec Ideal S1x128x16 .f32)

/-- A head's column of maxima, and its column of sums. -/
abbrev cM (h : Fin 8) : Fin 16 := ⟨h.val, by omega⟩
abbrev cL (h : Fin 8) : Fin 16 := ⟨8 + h.val, by omega⟩
/-- A head's columns of the outputs. -/
abbrev cO (h : Fin 8) (e : Fin 128) : Fin 1024 := ⟨128 * h.val + e.val, by omega⟩

/-- The merged maximum, -/
theorem pay70_at (i : Fin 128) (h : Fin 8) : k0_pay70 x y (ValueIdx.ix2 i h) = max (x (ValueIdx.ix2 i (cM h))) (y (ValueIdx.ix3 0 i (cM h))) := by
  rw [← ix2_eq_valueIdx i h]
  pointwise [k0_pay70, k0_pay67, k0_pay66, k0_pay65, k0_pay64]
  simp only [ix2_eq_valueIdx, ix3_eq_valueIdx]
/-- the two rescalings, -/
theorem pay68_at (i : Fin 128) (h : Fin 8) : k0_pay68 x y (ValueIdx.ix2 i h)
    = Ideal.exp (x (ValueIdx.ix2 i (cM h)) - max (x (ValueIdx.ix2 i (cM h))) (y (ValueIdx.ix3 0 i (cM h)))) := by
  rw [← ix2_eq_valueIdx i h]
  pointwise [k0_pay68, k0_pay67, k0_pay66, k0_pay65, k0_pay64]
  simp only [ix2_eq_valueIdx, ix3_eq_valueIdx]
theorem pay69_at (i : Fin 128) (h : Fin 8) : k0_pay69 x y (ValueIdx.ix2 i h)
    = Ideal.exp (y (ValueIdx.ix3 0 i (cM h)) - max (x (ValueIdx.ix2 i (cM h))) (y (ValueIdx.ix3 0 i (cM h)))) := by
  rw [← ix2_eq_valueIdx i h]
  pointwise [k0_pay69, k0_pay67, k0_pay66, k0_pay65, k0_pay64]
  simp only [ix2_eq_valueIdx, ix3_eq_valueIdx]
/-- the merged sum, -/
theorem pay72_at (i : Fin 128) (h : Fin 8) : k0_pay72 (k0_pay71 x y) (ValueIdx.ix2 i h)
    = k0_pay68 x y (ValueIdx.ix2 i h) * x (ValueIdx.ix2 i (cL h)) + k0_pay69 x y (ValueIdx.ix2 i h) * y (ValueIdx.ix3 0 i (cL h)) := by
  rw [← ix2_eq_valueIdx i h]
  pointwise [k0_pay72, k0_pay71, k0_pay64]
  simp only [ix2_eq_valueIdx, ix3_eq_valueIdx]
/-- and a head's merged output. -/
theorem hopPay_at (a b : FVec Ideal S128x8 .f32) (o : Vec Ideal S128x128 .f32) (r : Vec Ideal S1x128x1024 .bf16) (h : Fin 8) (i e : Fin 128) :
    hopPay a b o r h (ValueIdx.ix2 i e) = o (ValueIdx.ix2 i e) * a (ValueIdx.ix2 i h) + r (ValueIdx.ix3 0 i (cO h e)) * b (ValueIdx.ix2 i h) := by
  rw [← ix2_eq_valueIdx i e]
  fin_cases h <;> pointwise [hopPay, k0_pay73, k0_pay74, k0_pay75, k0_pay76, k0_pay77, k0_pay78, k0_pay79, k0_pay80, k0_pay81, k0_pay82, k0_pay83] <;>
    simp [ix2_eq_valueIdx, ix3_eq_valueIdx, cO]
end Hop

/-- A head's quotient. -/
theorem midPay_at (l : Vec Ideal S128x8 .f32) (o : Vec Ideal S128x128 .f32) (h : Fin 8) (i e : Fin 128) :
    midPay l o h (ValueIdx.ix2 i e) = Ideal.div (o (ValueIdx.ix2 i e)) (l (ValueIdx.ix2 i h)) := by
  rw [← ix2_eq_valueIdx i e]
  fin_cases h <;> pointwise [midPay, k0_pay381, k0_pay382, k0_pay383, k0_pay384, k0_pay385, k0_pay386, k0_pay387, k0_pay388] <;>
    simp [ix2_eq_valueIdx]

/-- What is sent of the outputs is the outputs. -/
theorem pay63_at (x : Vec Ideal S128x1024 .f32) (i : Fin 128) (c : Fin 1024) : k0_pay63 x (ValueIdx.ix2 i c) = x (ValueIdx.ix2 i c) := by
  rw [← ix2_eq_valueIdx i c]
  pointwise [k0_pay63]

/-- The queries. -/
theorem pay55_at (x : Vec Ideal S2048x1024 .bf16) (w : Vec Ideal S1024x1024 .bf16) (r : Fin 2048) (c : Fin 1024) :
    k0_pay55 x w (ValueIdx.ix2 r c) = ∑ k : Fin 1024, x (ValueIdx.ix2 r k) * w (ValueIdx.ix2 k c) := by
  rw [← ix2_eq_valueIdx r c]
  pointwise [k0_pay55]
  simp only [ix2_eq_valueIdx]

/-- The output projection. -/
theorem pay1_at (x : Vec Ideal S512x1024 .bf16) (w : Vec Ideal S1024x1024 .bf16) (r : Fin 512) (c : Fin 1024) :
    k0_pay1 x w (ValueIdx.ix2 r c) = ∑ k : Fin 1024, x (ValueIdx.ix2 r k) * w (ValueIdx.ix2 k c) := by
  rw [← ix2_eq_valueIdx r c]
  pointwise [k0_pay1]
  simp only [ix2_eq_valueIdx]

end Cert.KernelIdeal.Gen.Attn

end
-- ==== Proof.Mask.lean ====
/- The block mask: which keys a query may read, and the words the kernel and the reference compute it by. -/
module

public import proofs.«01_k».proof.Proof.Vals
public import Idealize.ShloMosaic.Lib.ValueIdx
public import Idealize.ShloMosaic.Lib.Pipeline.Value

@[expose] public section

set_option maxRecDepth 16384

noncomputable section

namespace Cert.Mask

open Idealize.ShloMosaic Idealize.ShloMosaic.ValueIdx

/-- Query `r` may read key `n`: their blocks are equal, or the key's is the first, or the blocks' sum is a multiple of 3. -/
def keep (r n : ℕ) : Prop := r / 64 = n / 64 ∨ n / 64 = 0 ∨ (r / 64 + n / 64) % 3 = 0
set_option backward.proofsInPublic true in
instance (r n : ℕ) : Decidable (keep r n) := inferInstanceAs (Decidable (_ ∨ _ ∨ _))

/-- A word's block as the kernel computes it: the quotient by 64 rounded down. -/
def kfd (w : BitVec 32) : BitVec 32 :=
  Scalar.select (IntOp.andi
      (IntOp.cmpi .ne (IntOp.subi ((IntOp.cmpi .sgt w 0#32).setWidth 32) ((IntOp.cmpi .slt w 0#32).setWidth 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)
/-- The mask's bit of two blocks, as the kernel computes it. -/
def kbit (q k : BitVec 32) : BitVec 1 :=
  IntOp.ori (IntOp.ori (IntOp.cmpi .eq q k) (IntOp.cmpi .eq k 0#32)) (IntOp.cmpi .eq (IntOp.remsi .vector (IntOp.addi q k) 3#32) 0#32)

theorem kfd_eq : ∀ n : Fin 2048, kfd (BitVec.ofNat 32 n.val) = BitVec.ofNat 32 (n.val / 64) := by decide +kernel
theorem rem3 : ∀ n : Fin 1024, IntOp.cmpi .eq (IntOp.remsi .vector (BitVec.ofNat 32 n.val) 3#32) 0#32 = if n.val % 3 = 0 then 1#1 else 0#1 := by decide +kernel
theorem eq_word (a b : ℕ) (ha : a < 2 ^ 32) (hb : b < 2 ^ 32) : IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, show (BitVec.ofNat 32 a == BitVec.ofNat 32 b) = false from beq_false_of_ne this]
    rfl
theorem or_bits (p q : Prop) [Decidable p] [Decidable q] : IntOp.ori (if p then 1#1 else 0#1) (if q then 1#1 else 0#1) = if p ∨ q then 1#1 else 0#1 := by
  by_cases p <;> by_cases q <;> simp [*, IntOp.ori]

theorem kbit_eq (a b : ℕ) (ha : a < 32) (hb : b < 512) :
    kbit (BitVec.ofNat 32 a) (BitVec.ofNat 32 b) = if a = b ∨ b = 0 ∨ (a + b) % 3 = 0 then 1#1 else 0#1 := by
  unfold kbit
  have h3 := rem3 ⟨a + b, by omega⟩
  dsimp only at h3
  rw [show IntOp.addi (BitVec.ofNat 32 a) (BitVec.ofNat 32 b) = BitVec.ofNat 32 (a + b) from (BitVec.ofNat_add _ _).symm, h3,
    eq_word a b (by omega) (by omega), eq_word b 0 (by omega) (by omega), or_bits, or_bits]
  exact if_congr (or_assoc) rfl rfl

/-- The device's place, and its first key block. -/
theorem dev_word : ∀ d : Dev Cert.KernelIdeal.nD, Scalar.muli (Scalar.remsi (Scalar.divsi (Dev.word d) 1#32) 16#32) 32#32 = BitVec.ofNat 32 (32 * d.val) := by decide +kernel

section Kernel
open Cert.KernelIdeal Cert.KernelIdeal.Gen Cert.KernelIdeal.Gen.Attn

/-- The mask of a tile, at an index, by the words. -/
theorem maskOf_words (d : Dev nD) (t : Fin k0_t1_loop.trips) (i : Fin 128) (j : Fin 2048) :
    maskOf (F := Ideal) d t (ix2 i j) = Scalar.select (kbit (kfd (BitVec.ofNat 32 i.val + Scalar.muli (Scf.iv 0#32 1#32 t.val) 128#32))
      (kfd (BitVec.ofNat 32 j.val) + Scalar.muli (Scalar.remsi (Scalar.divsi (Dev.word d) 1#32) 16#32) 32#32)) (Ideal.ofBits .f32 0#32) ⊥ := by
  have h0 : iota .tc S128x2048 32 [0] iota_S128x2048_d0_w32 (ix2 i j) = BitVec.ofNat 32 i.val := iota_single_apply ..
  have h1 : iota .tc S128x2048 32 [1] iota_S128x2048_d1_w32 (ix2 i j) = BitVec.ofNat 32 j.val := iota_single_apply ..
  rw [← h0, ← h1]
  rfl

theorem tile_word : ∀ (t : Fin k0_t1_loop.trips), Scalar.muli (Scf.iv 0#32 1#32 t.val) 128#32 = BitVec.ofNat 32 (128 * t.val) := by decide +kernel

/-- The mask of a tile: 0 where the query may read the key, `⊥` elsewhere. -/
theorem maskOf_apply (d : Dev nD) (t : Fin k0_t1_loop.trips) (i : Fin 128) (j : Fin 2048) :
    maskOf (F := Ideal) d t (ix2 i j) = if keep (128 * t.val + i.val) (2048 * d.val + j.val) then 0 else ⊥ := by
  have ht : t.val < 16 := lt_of_lt_of_eq t.isLt trips_eq
  have hd : d.val < 16 := d.isLt
  rw [maskOf_words, tile_word, dev_word, ← BitVec.ofNat_add]
  have e1 := kfd_eq ⟨i.val + 128 * t.val, by omega⟩
  have e2 := kfd_eq j
  dsimp only at e1
  rw [e1, e2, ← BitVec.ofNat_add, kbit_eq _ _ (by omega) (by omega), show (Ideal.ofBits .f32 0#32 : EReal) = 0 by simp [Ideal.ofBits, Ideal.ieee]]
  have hk : ((i.val + 128 * t.val) / 64 = j.val / 64 + 32 * d.val ∨ j.val / 64 + 32 * d.val = 0 ∨ ((i.val + 128 * t.val) / 64 + (j.val / 64 + 32 * d.val)) % 3 = 0)
      ↔ keep (128 * t.val + i.val) (2048 * d.val + j.val) := by
    unfold keep
    rw [show (2048 * d.val + j.val) / 64 = j.val / 64 + 32 * d.val by omega, Nat.add_comm i.val]
  by_cases h : keep (128 * t.val + i.val) (2048 * d.val + j.val)
  · rw [if_pos h, if_pos (hk.2 h)]; rfl
  · rw [if_neg h, if_neg (fun h' => h (hk.1 h'))]; rfl

end Kernel

end Cert.Mask

end
-- ==== Proof.Softmax.lean ====
/- The softmax over the extended reals: the maximum, the sum of exponentials and the weighted sum of a set of keys, the
   merge of two disjoint sets' triples, and the division at the end. -/
module

public import Idealize.ShloMosaic.PureOps.Ideal

@[expose] public section

noncomputable section

namespace Cert.Softmax

open Idealize.ShloMosaic

/-- The exponential of a score below a bound that is not `⊤` is a nonnegative real. -/
theorem exp_sub_coe {x m : EReal} (h : x ≤ m) (hm : m ≠ ⊤) : ∃ r : ℝ, 0 ≤ r ∧ Ideal.exp (x - m) = (r : EReal) := by
  induction x with
  | bot => exact ⟨0, le_rfl, by rw [EReal.bot_sub]; rfl⟩
  | top => exact absurd (top_le_iff.1 h) hm
  | coe x =>
    induction m with
    | bot => exact absurd (le_bot_iff.1 h) (EReal.coe_ne_bot x)
    | top => exact absurd rfl hm
    | coe m => exact ⟨Real.exp (x - m), (Real.exp_pos _).le, by rw [← EReal.coe_sub]; rfl⟩

/-- Rescaling: from a bound to a bound above it. -/
theorem exp_mul_exp {x m M : EReal} (h : x ≤ m) (h' : m ≤ M) (hM : M ≠ ⊤) :
    Ideal.exp (x - m) * Ideal.exp (m - M) = Ideal.exp (x - M) := by
  have b0 : Ideal.exp ⊥ = 0 := rfl
  induction x with
  | bot => simp [EReal.bot_sub, b0]
  | top => exact absurd (top_le_iff.1 (h.trans h')) hM
  | coe x =>
    induction m with
    | bot => exact absurd (le_bot_iff.1 h) (EReal.coe_ne_bot x)
    | top => exact absurd (top_le_iff.1 h') hM
    | coe m =>
      induction M with
      | bot => exact absurd (le_bot_iff.1 h') (EReal.coe_ne_bot m)
      | top => exact absurd rfl hM
      | coe M =>
        rw [← EReal.coe_sub, ← EReal.coe_sub, ← EReal.coe_sub]
        show ((Real.exp (x - m) : ℝ) : EReal) * ((Real.exp (m - M) : ℝ) : EReal) = ((Real.exp (x - M) : ℝ) : EReal)
        rw [← EReal.coe_mul, ← Real.exp_add]
        congr 2; ring

/-- A nonnegative real goes into a sum of extended reals. -/
theorem sum_mul_coe {ι : Type} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (EReal.coe_nonneg.2 hr) (EReal.coe_ne_top r), ih]

variable {ι : Type}

/-- The maximum of the scores of a set of keys, -/
def mx (s : ι → EReal) (S : Finset ι) : EReal := S.sup s
/-- the sum of their exponentials below the maximum, -/
def sm (s : ι → EReal) (S : Finset ι) : EReal := ∑ i ∈ S, Ideal.exp (s i - mx s S)
/-- the sum of values weighted by them. -/
def ov (s v : ι → EReal) (S : Finset ι) : EReal := ∑ i ∈ S, Ideal.exp (s i - mx s S) * v i

theorem mx_ne_top {s : ι → EReal} (hs : ∀ i, s i ≠ ⊤) (S : Finset ι) : mx s S ≠ ⊤ := by
  refine ne_of_lt ((Finset.sup_lt_iff (by simp)).2 fun i _ => lt_top_iff_ne_top.2 (hs i))

variable [DecidableEq ι]

theorem mx_union (s : ι → EReal) (S T : Finset ι) : mx s (S ∪ T) = max (mx s S) (mx s T) := Finset.sup_union

/-- A set's weighted sum, rescaled to a bound above its maximum. -/
theorem ov_scale {s : ι → EReal} (v : ι → EReal) {S : Finset ι} {M : EReal} (h : mx s S ≤ M) (hM : M ≠ ⊤) :
    ov s v S * Ideal.exp (mx s S - M) = ∑ i ∈ S, Ideal.exp (s i - M) * v i := by
  obtain ⟨r, hr, e⟩ := exp_sub_coe h hM
  unfold ov
  rw [e, sum_mul_coe _ _ hr]
  refine Finset.sum_congr rfl fun i hi => ?_
  rw [← e, mul_right_comm, exp_mul_exp (show s i ≤ mx s S from Finset.le_sup hi) h hM]

theorem sm_scale {s : ι → EReal} {S : Finset ι} {M : EReal} (h : mx s S ≤ M) (hM : M ≠ ⊤) :
    Ideal.exp (mx s S - M) * sm s S = ∑ i ∈ S, Ideal.exp (s i - M) := by
  have := ov_scale (fun _ => 1) h hM
  simp only [ov, mul_one] at this
  rw [mul_comm]
  exact this

/-- The merge of the sums of two disjoint sets of keys. -/
theorem sm_union {s : ι → EReal} (hs : ∀ i, s i ≠ ⊤) {S T : Finset ι} (hd : Disjoint S T) :
    Ideal.exp (mx s S - max (mx s S) (mx s T)) * sm s S + Ideal.exp (mx s T - max (mx s S) (mx s T)) * sm s T = sm s (S ∪ T) := by
  have hM : max (mx s S) (mx s T) ≠ ⊤ := mx_union s S T ▸ mx_ne_top hs _
  rw [sm_scale (le_max_left _ _) hM, sm_scale (le_max_right _ _) hM, ← Finset.sum_union hd]
  unfold sm
  rw [mx_union]
/-- The merge of their weighted sums. -/
theorem ov_union {s : ι → EReal} (hs : ∀ i, s i ≠ ⊤) (v : ι → EReal) {S T : Finset ι} (hd : Disjoint S T) :
    ov s v S * Ideal.exp (mx s S - max (mx s S) (mx s T)) + ov s v T * Ideal.exp (mx s T - max (mx s S) (mx s T)) = ov s v (S ∪ T) := by
  have hM : max (mx s S) (mx s T) ≠ ⊤ := mx_union s S T ▸ mx_ne_top hs _
  rw [ov_scale v (le_max_left _ _) hM, ov_scale v (le_max_right _ _) hM, ← Finset.sum_union hd]
  unfold ov
  rw [mx_union]

omit [DecidableEq ι] in
/-- Where a score is real, the sum of exponentials is a positive real, -/
theorem sm_pos {s : ι → EReal} (hs : ∀ i, s i ≠ ⊤) {S : Finset ι} {i : ι} (hi : i ∈ S) (hb : s i ≠ ⊥) :
    ∃ r : ℝ, 0 < r ∧ sm s S = (r : EReal) := by
  have hM := mx_ne_top hs S
  have hc : ∀ j : S, ∃ r : ℝ, 0 ≤ r ∧ Ideal.exp (s j - mx s S) = (r : EReal) := fun j => exp_sub_coe (Finset.le_sup j.2 : s j ≤ mx s S) hM
  choose f hf using hc
  obtain ⟨M, hMr⟩ : ∃ M : ℝ, mx s S = (M : EReal) :=
    ⟨_, (EReal.coe_toReal hM (ne_bot_of_le_ne_bot hb (Finset.le_sup hi))).symm⟩
  obtain ⟨x, hx⟩ : ∃ x : ℝ, s i = (x : EReal) := ⟨_, (EReal.coe_toReal (hs i) hb).symm⟩
  have hp : 0 < f ⟨i, hi⟩ := by
    have h := (hf ⟨i, hi⟩).2
    rw [show s (⟨i, hi⟩ : S).1 = (x : EReal) from hx, hMr, ← EReal.coe_sub] at h
    rw [← EReal.coe_eq_coe_iff.1 (show ((Real.exp (x - M) : ℝ) : EReal) = (f ⟨i, hi⟩ : EReal) from h)]
    exact Real.exp_pos _
  refine ⟨∑ j : S, f j, Finset.sum_pos' (fun j _ => (hf j).1) ⟨⟨i, hi⟩, Finset.mem_univ _, hp⟩, ?_⟩
  unfold sm
  rw [← Finset.sum_coe_sort, Finset.sum_congr rfl fun j _ => (hf j).2]
  exact (map_sum (⟨⟨Real.toEReal, EReal.coe_zero⟩, EReal.coe_add⟩ : ℝ →+ EReal) f Finset.univ).symm

omit [DecidableEq ι] in
/-- so the quotient of the weighted sum is the sum of the values weighted by the quotients. -/
theorem ov_div {s : ι → EReal} (hs : ∀ i, s i ≠ ⊤) (v : ι → EReal) {S : Finset ι} {i : ι} (hi : i ∈ S) (hb : s i ≠ ⊥) :
    Ideal.div (ov s v S) (sm s S) = ∑ j ∈ S, v j * Ideal.div (Ideal.exp (s j - mx s S)) (sm s S) := by
  obtain ⟨r, hr, e⟩ := sm_pos hs hi hb
  have h0 : (r : EReal) ≠ 0 := by exact_mod_cast hr.ne'
  unfold Ideal.div
  rw [e]
  simp only [if_neg h0]
  unfold ov
  rw [← EReal.coe_inv, sum_mul_coe _ _ (inv_nonneg.2 hr.le)]
  refine Finset.sum_congr rfl fun j _ => ?_
  rw [mul_comm (Ideal.exp _) (v j), mul_assoc]

end Cert.Softmax

end
-- ==== Proof.Local.lean ====
/- What the tile loop leaves, as mathematics: each row's maximum, sum and outputs of a head over the device's own keys. -/
module

public import proofs.«01_k».proof.Proof.PayVal
public import proofs.«01_k».proof.Proof.Mask
public import proofs.«01_k».proof.Proof.Softmax

@[expose] public section

set_option maxRecDepth 16384

noncomputable section

namespace Cert.KernelIdeal.Gen.Attn

open Idealize.ShloMosaic hiding ix2 ix3
open Idealize.ShloMosaic.TcCoe Idealize.ShloMosaic.ValueIdx
open Cert.Softmax Cert.Mask

section Read
variable {F : FTy → Type} [FloatOps F] [Named F]
omit [FloatOps F] [Named F] in
/-- A load through a unit-stride rectangle, by coordinates. -/
theorem rd_at {n0 n1 : ℕ} {e : EltTy} (v : View sig .tc .vmem ⟨2, ![n0, n1]⟩ e) (f : v.ty.Contents (Elt F))
    {off : Fin 2 → ℕ} {o0 o1 s0 s1 : ℕ} (h : off = ![o0, o1]) (inb : ∀ a : Fin 2, off a + (![s0, s1] : Fin 2 → ℕ) a ≤ (⟨2, ![n0, n1]⟩ : Shape).size a)
    (r' : Fin s0) (c' : Fin s1) (r : Fin n0) (c : Fin n1) (hr : r.val = o0 + r'.val) (hc : c.val = o1 + c'.val) :
    v.readAt (Elt F) (Rect.unit (s := ⟨2, ![n0, n1]⟩) off ![s0, s1] inb).toLoadRect f (ix2 r' c') = v.read (Elt F) f (ix2 r c) := by
  subst h
  have hy : (Rect.unit (s := ⟨2, ![n0, n1]⟩) ![o0, o1] ![s0, s1] inb).emb (ix2 r' c') = ix2 r c := funext <| Fin.forall_fin_two.2
    ⟨Fin.ext (by show o0 + 1 * r'.val = r.val; omega), Fin.ext (by show o1 + 1 * c'.val = c.val; omega)⟩
  rw [← hy]
  rfl
end Read

variable (I : Ins Ideal)

/-- A key: its device, and its place there. -/
abbrev Key := Dev nD × Fin 2048

/-- The arguments' entries, as extended reals. -/
abbrev xAt (d : Dev nD) (r : Fin 2048) (c : Fin 1024) : EReal := I.x d (ix2 r c)
abbrev wqAt (d : Dev nD) (r c : Fin 1024) : EReal := I.wq d (ix2 r c)
abbrev kAt (d : Dev nD) (j : Fin 2048) (h : Fin 8) (e : Fin 128) : EReal := I.k d (ix3 j h e)
abbrev vAt (d : Dev nD) (j : Fin 2048) (h : Fin 8) (e : Fin 128) : EReal := I.v d (ix3 j h e)
abbrev woAt (d : Dev nD) (r c : Fin 1024) : EReal := I.wo d (ix2 r c)

/-- A query's component. -/
def qAt (d : Dev nD) (r : Fin 2048) (c : Fin 1024) : EReal := ∑ k : Fin 1024, xAt I d r k * wqAt I d k c
/-- A query row's score of a key in a head, `⊥` where it may not read it; -/
def sco (r : Fin 2048) (h : Fin 8) (p : Key) : EReal :=
  if keep r.val (2048 * p.1.val + p.2.val) then (∑ e : Fin 128, qAt I p.1 r (cO h e) * kAt I p.1 p.2 h e) * SC else ⊥
/-- a key's value in a head. -/
def vlu (h : Fin 8) (e : Fin 128) (p : Key) : EReal := vAt I p.1 p.2 h e
/-- The keys of a set of devices. -/
def KS (D : Finset (Dev nD)) : Finset Key := D ×ˢ Finset.univ

theorem KS_union (D E : Finset (Dev nD)) : KS (D ∪ E) = KS D ∪ KS E := Finset.union_product ..
theorem KS_disjoint {D E : Finset (Dev nD)} (h : Disjoint D E) : Disjoint (KS D) (KS E) := Finset.disjoint_product.2 (.inl h)
theorem KS_univ : KS Finset.univ = Finset.univ := Finset.univ_product_univ

theorem mx_one (s : Key → EReal) (d : Dev nD) : mx s (KS {d}) = Finset.univ.sup fun j => s (d, j) := by
  unfold mx KS; rw [Finset.sup_product_left, Finset.sup_singleton]
theorem sum_one (f : Key → EReal) (d : Dev nD) : ∑ p ∈ KS {d}, f p = ∑ j, f (d, j) := by
  unfold KS; rw [Finset.sum_product, Finset.sum_singleton]

theorem qOf_at (d : Dev nD) (r : Fin 2048) (c : Fin 1024) : qOf I d (ix2 r c) = qAt I d r c := pay55_at ..

theorem qT_at (d : Dev nD) (t : Fin k0_t1_loop.trips) (h : Fin 8) (i e : Fin 128) (r : Fin 2048) (hr : r.val = 128 * t.val + i.val) :
    qT I d t h (ix2 i e) = qAt I d r (cO h e) :=
  (rd_at (n0 := 2048) (n1 := 1024) (s0 := 128) (s1 := 128) mQ.view (qOf I d) (tq_eq t h) (tq_inb t h) i e r (cO h e) hr rfl).trans (qOf_at ..)

theorem emb_head (h : Fin 8) (j : Fin 2048) (e : Fin 128) : (rHead h).emb (ix3 j 0 e) = ix3 j h e :=
  funext fun a => Fin.ext (by
    fin_cases a
    · show 0 + 1 * j.val = j.val; omega
    · show h.val + 1 * 0 = h.val; omega
    · show 0 + 1 * e.val = e.val; omega)
theorem kT_at (d : Dev nD) (h : Fin 8) (j : Fin 2048) (e : Fin 128) : kT I d h (ix3 j 0 e) = I.k d (ix3 j h e) := by
  rw [← emb_head]; rfl
theorem vT_at (d : Dev nD) (h : Fin 8) (j : Fin 2048) (e : Fin 128) : vT I d h (ix3 j 0 e) = I.v d (ix3 j h e) := by
  rw [← emb_head]; rfl

/-- A tile's score is the row's. -/
theorem pay3_sco (d : Dev nD) (t : Fin k0_t1_loop.trips) (h : Fin 8) (i : Fin 128) (j : Fin 2048) (r : Fin 2048) (hr : r.val = 128 * t.val + i.val) :
    k0_pay3 (maskOf d t) (qT I d t h) (kT I d h) (ix2 i j) = sco I r h (d, j) := by
  rw [pay3_at, maskOf_apply]
  unfold sco
  rw [← hr]
  simp only [qT_at I d t h i _ r hr, kT_at]
  split
  · exact add_zero (_ : EReal)
  · exact EReal.add_bot _

variable (d : Dev nD) (r : Fin 2048) (h : Fin 8)

theorem row_eq : r.val = 128 * (tileOf r.val r.isLt).val + (⟨r.val % 128, Nat.mod_lt _ (by decide)⟩ : Fin 128).val := by
  show r.val = 128 * (r.val / 128) + r.val % 128
  omega

/-- The loop's maximum, -/
theorem loc_m : locML I d (ix2 r (cM h)) = mx (sco I r h) (KS {d}) := by
  show locMLat I d r (cM h) = _
  unfold locMLat
  rw [dif_pos (show (cM h).val < 8 from h.isLt), mx_one]
  refine (pay6_at ..).trans ?_
  simp only [pay3_sco I d _ _ _ _ r (row_eq r)]
/-- its sum, -/
theorem loc_l : locML I d (ix2 r (cL h)) = sm (sco I r h) (KS {d}) := by
  show locMLat I d r (cL h) = _
  unfold locMLat sm
  rw [dif_neg (show ¬ (cL h).val < 8 by show ¬ 8 + h.val < 8; omega), mx_one, sum_one]
  refine (pay7_at ..).trans ?_
  rw [show (⟨(cL h).val - 8, by show 8 + h.val - 8 < 8; omega⟩ : Fin 8) = h from Fin.ext (by show 8 + h.val - 8 = h.val; omega)]
  simp only [pay3_sco I d _ _ _ _ r (row_eq r)]
/-- its outputs. -/
theorem loc_o (e : Fin 128) : locO I d (ix2 r (cO h e)) = ov (sco I r h) (vlu I h e) (KS {d}) := by
  show locOat I d r (cO h e) = _
  unfold locOat ov
  rw [mx_one, sum_one]
  refine (pay8_at ..).trans ?_
  rw [show (⟨(cO h e).val / 128, by have := (cO h e).isLt; omega⟩ : Fin 8) = h from Fin.ext (by show (128 * h.val + e.val) / 128 = h.val; omega),
    show (⟨(cO h e).val % 128, Nat.mod_lt _ (by decide)⟩ : Fin 128) = e from Fin.ext (by show (128 * h.val + e.val) % 128 = e.val; omega)]
  simp only [pay3_sco I d _ _ _ _ r (row_eq r), vT_at]
  rfl

end Cert.KernelIdeal.Gen.Attn

end
-- ==== Proof.Reduce.lean ====
/- One hop of the reduce-scatter, read at an index: the merged chunk's maxima, sums and outputs, the other chunks' as they were. -/
module

public import proofs.«01_k».proof.Proof.Local
public import proofs.«01_k».proof.Proof.Steps
public import Idealize.ShloMosaic.Lib.ValueLayout

@[expose] public section

set_option maxRecDepth 16384

noncomputable section

namespace Cert.KernelIdeal.Gen.Attn

open Idealize.ShloMosaic hiding ix2 ix3
open Idealize.ShloMosaic.TcCoe Idealize.ShloMosaic.ValueIdx
open Cert.Softmax Cert.Mask

/-! ## Stores of the heads, one after another -/

section Heads
variable {α : Type} (f : (S2048x1024.Idx → α) → Fin 8 → S2048x1024.Idx → α) (P : Fin 2048 → Prop)

/-- Stores that each leave what lies outside their head's columns, and outside some rows, leave what lies outside all. -/
theorem heads_out (hout : ∀ g h r h' e, ¬ P r ∨ h' ≠ h → f g h (ix2 r (cO h' e)) = g (ix2 r (cO h' e))) (r : Fin 2048) (h : Fin 8) (e : Fin 128) :
    ∀ (l : List (Fin 8)) (g : S2048x1024.Idx → α), ¬ P r ∨ h ∉ l → l.foldl f g (ix2 r (cO h e)) = g (ix2 r (cO h e))
  | [], _, _ => rfl
  | a :: l, g, H => by
    have H1 : ¬ P r ∨ h ≠ a := H.imp id fun hn e => hn (e ▸ List.mem_cons_self)
    have H2 : ¬ P r ∨ h ∉ l := H.imp id fun hn e => hn (List.mem_cons_of_mem _ e)
    exact (heads_out hout r h e l (f g a) H2).trans (hout g a r h e H1)

/-- A head of them has its own store's value, of what was there before. -/
theorem heads_in (V : Fin 8 → Fin 2048 → Fin 128 → α → α)
    (hout : ∀ g h r h' e, ¬ P r ∨ h' ≠ h → f g h (ix2 r (cO h' e)) = g (ix2 r (cO h' e)))
    (hin : ∀ g h r e, P r → f g h (ix2 r (cO h e)) = V h r e (g (ix2 r (cO h e)))) (r : Fin 2048) (hr : P r) (h : Fin 8) (e : Fin 128) :
    ∀ (l : List (Fin 8)) (g : S2048x1024.Idx → α), l.Nodup → h ∈ l → l.foldl f g (ix2 r (cO h e)) = V h r e (g (ix2 r (cO h e)))
  | [], _, _, hm => absurd hm List.not_mem_nil
  | a :: l, g, hn, hm => by
    obtain ⟨hal, hl⟩ := List.nodup_cons.1 hn
    by_cases ha : h = a
    · subst ha
      exact (heads_out f P hout r h e l (f g h) (.inr hal)).trans (hin g h r e hr)
    · exact (heads_in V hout hin r hr h e l (f g a) hl ((List.mem_cons.1 hm).resolve_left ha)).trans (by rw [hout g a r h e (.inr ha)])
end Heads

theorem heads_nodup : heads.Nodup := by decide
theorem mem_heads : ∀ h : Fin 8, h ∈ heads := by decide

/-! ## One hop's merge, at an index -/

/-- The chunk a hop merges. -/
def chk (d : Dev nD) (k : Fin 15) : ℕ := (d.val + 30 - k.val) % 16

theorem ho_eq (d : Dev nD) (k : Fin 15) (h : Fin 8) : ho d (BitVec.ofNat 32 k.val) h = ![128 * chk d k, 128 * h.val] := by
  unfold chk
  fin_cases h
  exacts [k0_off30_eq d k, k0_off31_eq d k, k0_off32_eq d k, k0_off33_eq d k, k0_off34_eq d k, k0_off35_eq d k, k0_off36_eq d k, k0_off37_eq d k]

/-- What is sent to a device lies in the chunk it merges. -/
theorem chk_prv (d : Dev nD) (k : Fin 15) : ((prv d).val + 15 - k.val) % 16 = chk d k := by
  revert d k; decide

/-- A row's place in its chunk. -/
abbrev lo (r : Fin 2048) : Fin 128 := ⟨r.val % 128, Nat.mod_lt _ (by decide)⟩

section Merge
variable (d : Dev nD) (k : Fin 15) (f f' : Ct Ideal cc0_scratch1) (g g' : Ct Ideal cc0_scratch2) (r : Fin 2048)

theorem rd27 (hr : r.val / 128 = chk d k) (c : Fin 16) : rd mML (r27 d k) f (ix2 (lo r) c) = f (ix2 r c) :=
  rd_at (n0 := 2048) (n1 := 16) (s0 := 128) (s1 := 16) mML.view f (k0_off27_eq d k) (k0_off27_inb d k) (lo r) c r c
    (by show r.val = 128 * chk d k + r.val % 128; omega) (by omega)

theorem rdHo (hr : r.val / 128 = chk d k) (h : Fin 8) (e : Fin 128) : rd mO (rHo d k h) g (ix2 (lo r) e) = g (ix2 r (cO h e)) :=
  rd_at (n0 := 2048) (n1 := 1024) (s0 := 128) (s1 := 128) mO.view g (ho_eq d k h) (ho_inb d k h) (lo r) e r (cO h e)
    (by show r.val = 128 * chk d k + r.val % 128; omega) rfl

theorem up_ml (v : Vec Ideal S128x16 .f32) (i : Fin 128) (c : Fin 16) : upML v (ix3 0 i c) = v (ix2 i c) :=
  congrArg v ((Equiv.symm_apply_eq _).2 (reshapeEquiv_ix2_1ab _ i c).symm)
theorem up_o (v : Vec Ideal S128x1024 .bf16) (i : Fin 128) (c : Fin 1024) : upO v (ix3 0 i c) = v (ix2 i c) :=
  congrArg v ((Equiv.symm_apply_eq _).2 (reshapeEquiv_ix2_1ab _ i c).symm)

theorem got_ml (hr : r.val / 128 = chk d k) (c : Fin 16) : upML (sML (prv d) k f') (ix3 0 (lo r) c) = f' (ix2 r c) :=
  (up_ml ..).trans (rd_at (n0 := 2048) (n1 := 16) (s0 := 128) (s1 := 16) mML.view f' (k0_off26_eq (prv d) k) (k0_off26_inb (prv d) k) (lo r) c r c
    (by rw [chk_prv]; show r.val = 128 * chk d k + r.val % 128; omega) (by omega))
theorem got_o (hr : r.val / 128 = chk d k) (c : Fin 1024) : upO (sO (prv d) k g') (ix3 0 (lo r) c) = g' (ix2 r c) :=
  (up_o ..).trans ((pay63_at ..).trans (rd_at (n0 := 2048) (n1 := 1024) (s0 := 128) (s1 := 1024) mO.view g' (k0_off25_eq (prv d) k) (k0_off25_inb (prv d) k) (lo r) c r c
    (by rw [chk_prv]; show r.val = 128 * chk d k + r.val % 128; omega) (by omega)))

variable (y : Vec Ideal S1x128x16 .f32) (R : Vec Ideal S1x128x1024 .bf16)

/-- Other chunks' rows are left. -/
theorem mergeML_out (hr : r.val / 128 ≠ chk d k) (c : Fin 16) : mergeML d k y f (ix2 r c) = f (ix2 r c) :=
  (congrFun (rd_ml _) _).symm.trans <|
    (wr_out (n0 := 2048) (n1 := 16) (s0 := 128) (s1 := 8) mML.view _ (k0_off29_eq d k) (k0_off29_inb d k) _ r c
      (.inl (by show r.val < 128 * chk d k ∨ 128 * chk d k + 128 ≤ r.val; omega))).trans <|
    (wr_out (n0 := 2048) (n1 := 16) (s0 := 128) (s1 := 8) mML.view _ (k0_off28_eq d k) (k0_off28_inb d k) _ r c
      (.inl (by show r.val < 128 * chk d k ∨ 128 * chk d k + 128 ≤ r.val; omega))).trans (congrFun (rd_ml _) _)

theorem mergeML_m (hr : r.val / 128 = chk d k) (h : Fin 8) : mergeML d k y f (ix2 r (cM h)) = k0_pay70 (rd mML (r27 d k) f) y (ix2 (lo r) h) :=
  (congrFun (rd_ml _) _).symm.trans <|
    (wr_out (n0 := 2048) (n1 := 16) (s0 := 128) (s1 := 8) mML.view _ (k0_off29_eq d k) (k0_off29_inb d k) _ r (cM h)
      (.inr (.inl h.isLt))).trans <|
    wr_in (n0 := 2048) (n1 := 16) (s0 := 128) (s1 := 8) mML.view _ (k0_off28_eq d k) (k0_off28_inb d k) _ r (cM h) (lo r) h
      (by show r.val = 128 * chk d k + r.val % 128; omega) (by show h.val = 0 + h.val; omega)

theorem mergeML_l (hr : r.val / 128 = chk d k) (h : Fin 8) :
    mergeML d k y f (ix2 r (cL h)) = k0_pay72 (k0_pay71 (rd mML (r27 d k) f) y) (ix2 (lo r) h) :=
  (congrFun (rd_ml _) _).symm.trans <|
    wr_in (n0 := 2048) (n1 := 16) (s0 := 128) (s1 := 8) mML.view _ (k0_off29_eq d k) (k0_off29_inb d k) _ r (cL h) (lo r) h
      (by show r.val = 128 * chk d k + r.val % 128; omega) rfl

variable (a b : FVec Ideal S128x8 .f32)

/-- Two products' sum. -/
abbrev mulAdd (x a y b : EReal) : EReal := x * a + y * b

theorem hopO_out (g : Ct Ideal cc0_scratch2) (h : Fin 8) (r : Fin 2048) (h' : Fin 8) (e : Fin 128) (H : ¬ r.val / 128 = chk d k ∨ h' ≠ h) :
    hopO d k a b R g h (ix2 r (cO h' e)) = g (ix2 r (cO h' e)) :=
  (congrFun (rd_o _) _).symm.trans <|
    (wr_out (n0 := 2048) (n1 := 1024) (s0 := 128) (s1 := 128) mO.view _ (ho_eq d k h) (ho_inb d k h) _ r (cO h' e) (by
      rcases H with H | H
      · exact .inl (by omega)
      · have := Fin.val_ne_of_ne H
        exact .inr (by show 128 * h'.val + e.val < 128 * h.val ∨ 128 * h.val + 128 ≤ 128 * h'.val + e.val; omega))).trans (congrFun (rd_o _) _)

theorem hopO_in (g : Ct Ideal cc0_scratch2) (h : Fin 8) (r : Fin 2048) (e : Fin 128) (hr : r.val / 128 = chk d k) :
    hopO d k a b R g h (ix2 r (cO h e))
      = mulAdd (g (ix2 r (cO h e))) (a (ix2 (lo r) h)) (R (ix3 0 (lo r) (cO h e))) (b (ix2 (lo r) h)) :=
  (congrFun (rd_o _) _).symm.trans <|
    (wr_in (n0 := 2048) (n1 := 1024) (s0 := 128) (s1 := 128) mO.view _ (ho_eq d k h) (ho_inb d k h) _ r (cO h e) (lo r) e
      (by show r.val = 128 * chk d k + r.val % 128; omega) rfl).trans <|
    (hopPay_at a b _ R h (lo r) e).trans (congrArg (fun x : EReal => mulAdd x (a (ix2 (lo r) h)) (R (ix3 0 (lo r) (cO h e))) (b (ix2 (lo r) h))) (rdHo d k g r hr h e))

theorem mergeO_out (hr : r.val / 128 ≠ chk d k) (h : Fin 8) (e : Fin 128) : mergeO d k y R f g (ix2 r (cO h e)) = g (ix2 r (cO h e)) :=
  heads_out _ (fun r => r.val / 128 = chk d k) (fun g h r h' e H => hopO_out d k R _ _ g h r h' e H) r h e heads g (.inl hr)

theorem mergeO_in (hr : r.val / 128 = chk d k) (h : Fin 8) (e : Fin 128) :
    mergeO d k y R f g (ix2 r (cO h e))
      = mulAdd (g (ix2 r (cO h e))) (k0_pay68 (rd mML (r27 d k) f) y (ix2 (lo r) h))
        (R (ix3 0 (lo r) (cO h e))) (k0_pay69 (rd mML (r27 d k) f) y (ix2 (lo r) h)) :=
  heads_in _ (fun r => r.val / 128 = chk d k)
    (fun h r e (x : EReal) => mulAdd x (k0_pay68 (rd mML (r27 d k) f) y (ix2 (lo r) h)) (R (ix3 0 (lo r) (cO h e))) (k0_pay69 (rd mML (r27 d k) f) y (ix2 (lo r) h)))
    (fun g h r h' e H => hopO_out d k R _ _ g h r h' e H) (fun g h r e H => hopO_in d k R _ _ g h r e H) r hr h e heads g heads_nodup (mem_heads h)
end Merge

end Cert.KernelIdeal.Gen.Attn

end
-- ==== Proof.Invar.lean ====
/- What the reduce-scatter computes: after `k` hops a device holds, of each chunk of rows, the maxima, sums and outputs
   over the keys of the devices whose parts it has merged; after all of them, of its own chunk over all the keys. -/
module

public import proofs.«01_k».proof.Proof.Reduce

@[expose] public section

set_option maxRecDepth 16384

noncomputable section

namespace Cert.KernelIdeal.Gen.Attn

open Idealize.ShloMosaic hiding ix2 ix3
open Idealize.ShloMosaic.TcCoe Idealize.ShloMosaic.ValueIdx
open Cert.Softmax Cert.Mask

/-! ## The invariant -/

variable (I : Ins Ideal)

/-- A state's chunk `c` is the attention over the keys of the devices `D`. -/
def Rep (D : Finset (Dev nD)) (c : ℕ) (s : Red Ideal) : Prop :=
  ∀ (r : Fin 2048), r.val / 128 = c → ∀ h : Fin 8, s.1 (ix2 r (cM h)) = mx (sco I r h) (KS D) ∧ s.1 (ix2 r (cL h)) = sm (sco I r h) (KS D)
    ∧ ∀ e : Fin 128, s.2 (ix2 r (cO h e)) = ov (sco I r h) (vlu I h e) (KS D)

theorem Rep.start (d : Dev nD) (c : ℕ) : Rep I {d} c (St I 0 d) := fun r _ h => ⟨loc_m I d r h, loc_l I d r h, loc_o I d r h⟩

/-- A hop's state, of the device's and of its left neighbour's. -/
def step (d : Dev nD) (k : Fin 15) (s s' : Red Ideal) : Red Ideal :=
  (mergeML d k (upML (sML (prv d) k s'.1)) s.1, mergeO d k (upML (sML (prv d) k s'.1)) (upO (sO (prv d) k s'.2)) s.1 s.2)
theorem St_step (k : Fin 15) (d : Dev nD) : St I (k.val + 1) d = step d k (St I k.val d) (St I k.val (prv d)) := St_succ I k d

variable {I}

theorem step_fst (d : Dev nD) (k : Fin 15) (s s' : Red Ideal) : (step d k s s').1 = mergeML d k (upML (sML (prv d) k s'.1)) s.1 := by rw [step]
theorem step_snd (d : Dev nD) (k : Fin 15) (s s' : Red Ideal) :
    (step d k s s').2 = mergeO d k (upML (sML (prv d) k s'.1)) (upO (sO (prv d) k s'.2)) s.1 s.2 := by rw [step]

theorem Rep.out {D : Finset (Dev nD)} {c : ℕ} {d : Dev nD} {k : Fin 15} {s s' : Red Ideal} (hc : c ≠ chk d k) (H : Rep I D c s) : Rep I D c (step d k s s') := by
  intro r hr h
  have hr' : r.val / 128 ≠ chk d k := fun e => hc (hr.symm.trans e)
  have h0 := H r hr h
  rw [step_fst, step_snd, mergeML_out d k s.1 r _ hr' (cM h), mergeML_out d k s.1 r _ hr' (cL h)]
  refine ⟨h0.1, h0.2.1, fun e => ?_⟩
  rw [mergeO_out d k s.1 s.2 r _ _ hr' h e]
  exact h0.2.2 e

theorem Rep.merge (hs : ∀ r h p, sco I r h p ≠ ⊤) {D E : Finset (Dev nD)} (hd : Disjoint D E) {d : Dev nD} {k : Fin 15} {s s' : Red Ideal}
    (H : Rep I D (chk d k) s) (H' : Rep I E (chk d k) s') : Rep I (D ∪ E) (chk d k) (step d k s s') := by
  intro r hr h
  have h0 := H r hr h
  have g0 := H' r hr h
  have hD := KS_disjoint hd
  rw [KS_union, step_fst, step_snd, mergeML_m d k s.1 r _ hr h, mergeML_l d k s.1 r _ hr h, pay70_at, pay72_at, pay68_at, pay69_at, rd27 d k _ r hr, rd27 d k _ r hr,
    got_ml d k _ r hr, got_ml d k _ r hr, h0.1, h0.2.1, g0.1, g0.2.1]
  refine ⟨(mx_union ..).symm, sm_union (hs r h) hD, fun e => ?_⟩
  rw [mergeO_in d k s.1 s.2 r _ _ hr h e, pay68_at, pay69_at, rd27 d k _ r hr, got_ml d k _ r hr, got_o d k _ r hr, h0.1, g0.1, h0.2.2 e, g0.2.2 e]
  exact ov_union (hs r h) _ hD

/-! ## The devices merged -/

/-- The devices whose parts of chunk `c` device `d` has merged after `k` hops: itself and those to its left. -/
def DS (k : ℕ) (d : Dev nD) (c : ℕ) : Finset (Dev nD) :=
  if (d.val + 15 - c) % 16 ≤ k then (Finset.range ((d.val + 15 - c) % 16 + 1)).image (back d) else {d}

theorem DS_zero : ∀ (d : Dev nD) (c : Fin 16), DS 0 d c.val = {d} := by decide +kernel
theorem DS_last : ∀ d : Dev nD, DS 15 d d.val = Finset.univ := by decide +kernel
theorem DS_out : ∀ (k : Fin 15) (d : Dev nD) (c : Fin 16), c.val ≠ chk d k → DS (k.val + 1) d c.val = DS k.val d c.val := by decide +kernel
theorem DS_in : ∀ (k : Fin 15) (d : Dev nD), DS (k.val + 1) d (chk d k) = DS k.val d (chk d k) ∪ DS k.val (prv d) (chk d k) := by decide +kernel
theorem DS_disj : ∀ (k : Fin 15) (d : Dev nD), Disjoint (DS k.val d (chk d k)) (DS k.val (prv d) (chk d k)) := by decide +kernel

theorem chk_lt (d : Dev nD) (k : Fin 15) : chk d k < 16 := Nat.mod_lt _ (by decide)

/-- After `k` hops. -/
theorem St_rep (hs : ∀ r h p, sco I r h p ≠ ⊤) : ∀ (k : ℕ), k ≤ 15 → ∀ (d : Dev nD) (c : Fin 16), Rep I (DS k d c.val) c.val (St I k d)
  | 0, _, d, c => by rw [DS_zero]; exact Rep.start I d c.val
  | k + 1, hk, d, c => by
    have ih := St_rep hs k (by omega)
    rw [show St I (k + 1) d = step d ⟨k, hk⟩ (St I k d) (St I k (prv d)) from St_step I ⟨k, hk⟩ d]
    by_cases hc : c.val = chk d ⟨k, hk⟩
    · rw [hc, show DS (k + 1) d (chk d ⟨k, hk⟩) = _ from DS_in ⟨k, hk⟩ d]
      exact Rep.merge hs (DS_disj ⟨k, hk⟩ d) (ih d ⟨chk d ⟨k, hk⟩, chk_lt ..⟩) (ih (prv d) ⟨chk d ⟨k, hk⟩, chk_lt ..⟩)
    · rw [show DS (k + 1) d c.val = _ from DS_out ⟨k, hk⟩ d c hc]
      exact Rep.out hc (ih d c)

/-- After all of them, of the device's own chunk, over all the keys. -/
theorem St_own (hs : ∀ r h p, sco I r h p ≠ ⊤) (d : Dev nD) : Rep I Finset.univ d.val (St I 15 d) := by
  have := St_rep hs 15 le_rfl d d
  rwa [DS_last] at this

/-! ## The contexts and the output -/

/-- A row's context of a head: its outputs over its sum, over all the keys. -/
def ctxAt (I : Ins Ideal) (r : Fin 2048) (h : Fin 8) (e : Fin 128) : EReal :=
  Ideal.div (ov (sco I r h) (vlu I h e) Finset.univ) (sm (sco I r h) Finset.univ)

section Mid
variable (d : Dev nD) (l : Vec Ideal S128x8 .f32) (g : Ct Ideal cc0_scratch2) (q : Ct Ideal cc0_scratch0)

theorem midQ_out (h : Fin 8) (r : Fin 2048) (h' : Fin 8) (e : Fin 128) (H : ¬ r.val / 128 = d.val ∨ h' ≠ h) :
    midQ d l g q h (ix2 r (cO h' e)) = q (ix2 r (cO h' e)) :=
  wr_out (n0 := 2048) (n1 := 1024) (s0 := 128) (s1 := 128) mQ.view q (mo_eq d h) (mo_inb d h) _ r (cO h' e) (by
      rcases H with H | H
      · exact .inl (by omega)
      · have := Fin.val_ne_of_ne H
        exact .inr (by show 128 * h'.val + e.val < 128 * h.val ∨ 128 * h.val + 128 ≤ 128 * h'.val + e.val; omega))

theorem midQ_in (h : Fin 8) (r : Fin 2048) (e : Fin 128) (hr : r.val / 128 = d.val) :
    midQ d l g q h (ix2 r (cO h e)) = Ideal.div (g (ix2 r (cO h e)) : EReal) (l (ix2 (lo r) h) : EReal) :=
  (wr_in (n0 := 2048) (n1 := 1024) (s0 := 128) (s1 := 128) mQ.view q (mo_eq d h) (mo_inb d h) _ r (cO h e) (lo r) e
      (by show r.val = 128 * d.val + r.val % 128; omega) rfl).trans <|
    (midPay_at ..).trans (congrArg (fun x : EReal => Ideal.div x (l (ix2 (lo r) h) : EReal))
      (rd_at (n0 := 2048) (n1 := 1024) (s0 := 128) (s1 := 128) mO.view g (mo_eq d h) (mo_inb d h) (lo r) e r (cO h e)
        (by show r.val = 128 * d.val + r.val % 128; omega) rfl))
end Mid

theorem ctxF_at (hs : ∀ r h p, sco I r h p ≠ ⊤) (d : Dev nD) (r : Fin 2048) (hr : r.val / 128 = d.val) (h : Fin 8) (e : Fin 128) :
    ctxF I d (ix2 r (cO h e)) = ctxAt I r h e := by
  obtain ⟨-, h2, h3⟩ := St_own hs d r hr h
  rw [KS_univ] at h2
  have h3 := h3 e
  rw [KS_univ] at h3
  have hl : rd mML (r38 d) (St I 15 d).1 (ix2 (lo r) h) = (St I 15 d).1 (ix2 r (cL h)) :=
    rd_at (n0 := 2048) (n1 := 16) (s0 := 128) (s1 := 8) mML.view _ (k0_off38_eq d) (k0_off38_inb d) (lo r) h r (cL h)
      (by show r.val = 128 * d.val + r.val % 128; omega) rfl
  refine (heads_in (midQ d (rd mML (r38 d) (St I 15 d).1) (St I 15 d).2) (fun r => r.val / 128 = d.val)
    (fun h r e _ => Ideal.div ((St I 15 d).2 (ix2 r (cO h e)) : EReal) (rd mML (r38 d) (St I 15 d).1 (ix2 (lo r) h) : EReal))
    (fun q h r h' e H => midQ_out d _ _ q h r h' e H) (fun q h r e H => midQ_in d _ _ q h r e H) r hr h e heads (qOf I d) heads_nodup (mem_heads h)).trans ?_
  rw [hl, h2, h3]
  rfl

/-- The head of a column, and its place in it. -/
abbrev hd (x : Fin 1024) : Fin 8 := ⟨x.val / 128, by omega⟩
abbrev pl (x : Fin 1024) : Fin 128 := ⟨x.val % 128, Nat.mod_lt _ (by decide)⟩
theorem cO_hd (x : Fin 1024) : cO (hd x) (pl x) = x := Fin.ext (by show 128 * (x.val / 128) + x.val % 128 = x.val; omega)

theorem cat_at (hs : ∀ r h p, sco I r h p ≠ ⊤) (r : Fin 2048) (x : Fin 1024) : cat I (ix2 r x) = ctxAt I r (hd x) (pl x) := by
  have := ctxF_at hs ⟨r.val / 128, by show _ < 16; omega⟩ r rfl (hd x) (pl x)
  rw [cO_hd] at this
  exact this

/-- A load of an output tile's contexts. -/
theorem rd_tile (f : Ct Ideal cc0_scratch0) (r : Fin 2048) (x : Fin 1024) :
    rd mQ (rTile ⟨r.val / 512, by omega⟩) f (ix2 ⟨r.val % 512, Nat.mod_lt _ (by decide)⟩ x) = f (ix2 r x) :=
  rd_at (n0 := 2048) (n1 := 1024) (s0 := 512) (s1 := 1024) mQ.view f rfl (inbTile _) _ x r x
    (by show r.val = 512 * (r.val / 512) + r.val % 512; omega) (by omega)

theorem outAt_eq (d : Dev nD) (r : Fin 2048) (c : Fin 1024) : outAt I d r c = ∑ x : Fin 1024, (show EReal from cat I (ix2 r x)) * woAt I d x c := by
  rw [outAt, pay1_at]
  simp only [rd_tile]

/-- The output: the contexts times the output weights. -/
theorem out_at (hs : ∀ r h p, sco I r h p ≠ ⊤) (d : Dev nD) (r : Fin 2048) (c : Fin 1024) :
    outF I d (ix2 r c) = ∑ x : Fin 1024, ctxAt I r (hd x) (pl x) * woAt I d x c := by
  refine (show outF I d (ix2 r c) = outAt I d r c by rw [outF]; rfl).trans ((outAt_eq ..).trans (Finset.sum_congr rfl fun x _ => ?_))
  rw [cat_at hs]

end Cert.KernelIdeal.Gen.Attn

end
-- ==== Proof.RefStages.lean ====
/- The reference's result, cut into named stages: the mask, the scores, their softmax, the contexts, the output. -/
module

public import proofs.«01_k».proof.Proof.Gen.ReferenceIdeal.Run
public import Idealize.ShloMosaic.PureOps.Ideal

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The queries' blocks, -/
def rQB : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- the keys'; -/
def rKB : IVec S32768 32 :=
  select (andi (cmpi .ne (signi (iotaInDim S32768 32 0)) (broadcastInDim S32768 ![] bcast_S_S32768 (signi (id (constantI S_ 32 64#32))))) (cmpi .ne (Host.remsi (iotaInDim S32768 32 0) (broadcastInDim S32768 ![] bcast_S_S32768 (id (constantI S_ 32 64#32)))) (broadcastInDim S32768 ![] bcast_S_S32768 (constantI S_ 32 0#32)))) (subi (Host.divsi (iotaInDim S32768 32 0) (broadcastInDim S32768 ![] bcast_S_S32768 (id (constantI S_ 32 64#32)))) (broadcastInDim S32768 ![] bcast_S_S32768 (constantI S_ 32 1#32))) (Host.divsi (iotaInDim S32768 32 0) (broadcastInDim S32768 ![] bcast_S_S32768 (id (constantI S_ 32 64#32))))

/-- the modulus, -/
def r3 : IVec S_ 32 :=
  select (cmpi .eq (id (constantI S_ 32 3#32)) (constantI S_ 32 0#32)) (constantI S_ 32 1#32) (id (constantI S_ 32 3#32))

/-- the remainder of the blocks' sum, with its dividend's sign, -/
def rRem : IVec S2048x32768 32 :=
  Host.remsi (addi (broadcastInDim S2048x32768 ![0, 1] bcast_S2048x1_S2048x32768_0_1 (broadcastInDim S2048x1 ![0] bcast_S2048_S2048x1_0 rQB)) (broadcastInDim S2048x32768 ![0, 1] bcast_S1x32768_S2048x32768_0_1 (broadcastInDim S1x32768 ![1] bcast_S32768_S1x32768_1 rKB))) (broadcastInDim S2048x32768 ![] bcast_S_S2048x32768 r3)

/-- and with the modulus's; -/
def rMod : IVec S2048x32768 32 :=
  select (andi (cmpi .ne (cmpi .slt rRem (broadcastInDim S2048x32768 ![] bcast_S_S2048x32768 (constantI S_ 32 0#32))) (broadcastInDim S2048x32768 ![] bcast_S_S2048x32768 (cmpi .slt r3 (constantI S_ 32 0#32)))) (cmpi .ne rRem (broadcastInDim S2048x32768 ![] bcast_S_S2048x32768 (constantI S_ 32 0#32)))) (addi rRem (broadcastInDim S2048x32768 ![] bcast_S_S2048x32768 r3)) rRem

/-- the mask, -/
def rMask : IVec S2048x32768 1 :=
  ori (ori (cmpi .eq (broadcastInDim S2048x32768 ![0, 1] bcast_S2048x1_S2048x32768_0_1 (broadcastInDim S2048x1 ![0] bcast_S2048_S2048x1_0 rQB)) (broadcastInDim S2048x32768 ![0, 1] bcast_S1x32768_S2048x32768_0_1 (broadcastInDim S1x32768 ![1] bcast_S32768_S1x32768_1 rKB))) (broadcastInDim S2048x32768 ![0, 1] bcast_S1x32768_S2048x32768_0_1 (cmpi .eq (broadcastInDim S1x32768 ![1] bcast_S32768_S1x32768_1 rKB) (broadcastInDim S1x32768 ![] bcast_S_S1x32768 (constantI S_ 32 0#32))))) (cmpi .eq rMod (broadcastInDim S2048x32768 ![] bcast_S_S2048x32768 (constantI S_ 32 0#32)))

/-- the rows with a key. -/
def rAny : IVec S2048 1 :=
  Host.reduce IntOp.ori rMask (constantI S_ 1 0#1) reducesTo_S2048x32768_S2048_d1 h_S_

variable (x : FVec Ideal S2048x1024 .bf16) (wq : FVec Ideal S1024x1024 .bf16) (k : FVec Ideal S32768x8x128 .bf16) (v : FVec Ideal S32768x8x128 .bf16) (wo : FVec Ideal S1024x1024 .bf16)

/-- The masked scores, -/
def rScore : FVec Ideal S8x2048x32768 .f32 :=
  select (broadcastInDim S8x2048x32768 ![0, 1, 2] bcast_S1x2048x32768_S8x2048x32768_0_1_2 (broadcastInDim S1x2048x32768 ![1, 2] bcast_S2048x32768_S1x2048x32768_1_2 rMask)) (mulf (extf .f32 (truncf .bf16 (Host.dotGeneral dot_S2048x8x128_S32768x8x128_S8x2048x32768_2_2_0_0_1_1 none (shapeCast _ (truncf .bf16 (Host.dotGeneral dot_S2048x1024_S1024x1024_S2048x1024_1_0_0_1_n_n none x wq) bitsLt_bf16_f32) shapeCasts_S2048x1024_S2048x8x128) k) bitsLt_bf16_f32) bitsLt_bf16_f32) (broadcastInDim S8x2048x32768 ![] bcast_S_S8x2048x32768 (constant S_ .f32 0x3DB504F3#32))) (broadcastInDim S8x2048x32768 ![] bcast_S_S8x2048x32768 (id (constant S_ .f32 0xFF800000#32)))

/-- their exponentials below the row's maximum, -/
def rExp : FVec Ideal S8x2048x32768 .f32 :=
  Host.exp (subf (rScore x wq k) (broadcastInDim S8x2048x32768 ![0, 1, 2] bcast_S8x2048x1_S8x2048x32768_0_1_2 (broadcastInDim S8x2048x1 ![0, 1] bcast_S8x2048_S8x2048x1_0_1 (Host.reduce FloatOps.maximumf (rScore x wq k) (constant S_ .f32 0xFF800000#32) reducesTo_S8x2048x32768_S8x2048_d2 h_S_))))

/-- the rows' sums, -/
def rSum : FVec Ideal S8x2048x1 .f32 :=
  select (broadcastInDim S8x2048x1 ![0, 1, 2] bcast_S1x2048x1_S8x2048x1_0_1_2 (broadcastInDim S1x2048x1 ![1] bcast_S2048_S1x2048x1_1 rAny)) (broadcastInDim S8x2048x1 ![0, 1] bcast_S8x2048_S8x2048x1_0_1 (Host.reduceAdd (rExp x wq k) (constant S_ .f32 0x00000000#32) reducesTo_S8x2048x32768_S8x2048_d2 h_S_)) (broadcastInDim S8x2048x1 ![] bcast_S_S8x2048x1 (id (constant S_ .f32 0x3F800000#32)))

/-- the weights, -/
def rProb : FVec Ideal S8x2048x32768 .f32 :=
  select (broadcastInDim S8x2048x32768 ![0, 1, 2] bcast_S1x2048x1_S8x2048x32768_0_1_2 (broadcastInDim S1x2048x1 ![1] bcast_S2048_S1x2048x1_1 rAny)) (Host.divf (rExp x wq k) (broadcastInDim S8x2048x32768 ![0, 1, 2] bcast_S8x2048x1_S8x2048x32768_0_1_2 (rSum x wq k))) (broadcastInDim S8x2048x32768 ![] bcast_S_S8x2048x32768 (id (constant S_ .f32 0x00000000#32)))

/-- the contexts, -/
def rCtx : FVec Ideal S2048x1024 .f32 :=
  shapeCast _ (transpose S2048x8x128 [2, 0, 1] (Host.dotGeneral dot_S32768x8x128_S8x2048x32768_S8x128x2048_0_2_2_1_1_0 none (extf .f32 v bitsLt_bf16_f32) (rProb x wq k)) transposes_S8x128x2048_S2048x8x128_2_0_1) shapeCasts_S2048x8x128_S2048x1024

/-- the output. -/
def rOut : FVec Ideal S2048x1024 .f32 :=
  Host.dotGeneral dot_S2048x1024_S1024x1024_S2048x1024_1_0_0_1_n_n none (rCtx x wq k v) (extf .f32 wo bitsLt_bf16_f32)

/-- The reference's result is the stages'. -/
theorem res_eq (m : (ℓ : Loc nD τ sig) → Buf (Elt Ideal) ℓ) (c : Dev nD) :
    Cert.ReferenceIdeal.Value.res_main_v49 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v49 rOut rCtx rProb rSum rExp rScore rAny rMask rMod rRem r3 rKB rQB
  rfl

end Cert.ReferenceIdeal.Attn

end
-- ==== Proof.RefScore.lean ====
/- The reference's first stages read at an index, over the extended reals: the mask, the masked scores, their exponentials. -/
module

public import proofs.«01_k».proof.Proof.RefStages
public import proofs.«01_k».proof.Proof.Mask
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe
open Cert.Mask

/-! ## The mask's words -/

/-- A word's sign. -/
def sg (w : BitVec 32) : BitVec 32 := if w = 0 then 0 else if w.msb = true then -1 else 1
/-- A word's block as the reference computes it: the quotient by 64 rounded down. -/
def rfd (w : BitVec 32) : BitVec 32 :=
  Scalar.select (IntOp.andi (IntOp.cmpi .ne (sg w) (sg 64#32)) (IntOp.cmpi .ne (IntOp.remsi .host w 64#32) 0#32))
    (IntOp.subi (IntOp.divsi .host w 64#32) 1#32) (IntOp.divsi .host w 64#32)
/-- A word's remainder by three as the reference computes it. -/
def rmd (w : BitVec 32) : BitVec 32 :=
  Scalar.select (IntOp.andi (IntOp.cmpi .ne (IntOp.cmpi .slt (IntOp.remsi .host w 3#32) 0#32) (IntOp.cmpi .slt 3#32 0#32)) (IntOp.cmpi .ne (IntOp.remsi .host w 3#32) 0#32))
    (IntOp.addi (IntOp.remsi .host w 3#32) 3#32) (IntOp.remsi .host w 3#32)

theorem rfd_eq : ∀ (a : Fin 16) (b : Fin 2048), rfd (BitVec.ofNat 32 (2048 * a.val + b.val)) = BitVec.ofNat 32 ((2048 * a.val + b.val) / 64) := by decide +kernel
theorem rmd_eq : ∀ n : Fin 1024, IntOp.cmpi .eq (rmd (BitVec.ofNat 32 n.val)) 0#32 = if n.val % 3 = 0 then 1#1 else 0#1 := by decide +kernel

theorem rfd_at (n : ℕ) (h : n < 32768) : rfd (BitVec.ofNat 32 n) = BitVec.ofNat 32 (n / 64) := by
  have := rfd_eq ⟨n / 2048, by omega⟩ ⟨n % 2048, by omega⟩
  dsimp only at this
  rwa [show 2048 * (n / 2048) + n % 2048 = n by omega] at this

theorem rQB_at (r : Fin 2048) : rQB (ix1 r) = BitVec.ofNat 32 (r.val / 64) := by
  rw [← rfd_at r.val (by omega)]
  pointwise [rQB]
  rfl
theorem rKB_at (n : Fin 32768) : rKB (ix1 n) = BitVec.ofNat 32 (n.val / 64) := by
  rw [← rfd_at n.val n.isLt]
  pointwise [rKB]
  rfl
theorem rMod_at (r : Fin 2048) (n : Fin 32768) : rMod (ix2 r n) = rmd (BitVec.ofNat 32 (r.val / 64 + n.val / 64)) := by
  rw [BitVec.ofNat_add, ← rQB_at, ← rKB_at]
  pointwise [rMod, rRem, r3]
  rfl

/-- The mask's bit: whether the query may read the key. -/
theorem rMask_at (r : Fin 2048) (n : Fin 32768) : rMask (ix2 r n) = if keep r.val n.val then 1#1 else 0#1 := by
  have e : rMask (ix2 r n) = IntOp.ori (IntOp.ori (IntOp.cmpi .eq (rQB (ix1 r)) (rKB (ix1 n))) (IntOp.cmpi .eq (rKB (ix1 n)) 0#32))
      (IntOp.cmpi .eq (rMod (ix2 r n)) 0#32) := by pointwise [rMask]
  have h3 := rmd_eq ⟨r.val / 64 + n.val / 64, by omega⟩
  dsimp only at h3
  rw [e, rMod_at, h3, rQB_at, rKB_at, eq_word _ _ (by omega) (by omega), eq_word _ 0 (by omega) (by omega), or_bits, or_bits]
  exact if_congr or_assoc rfl rfl

/-- A bit folded over bits one of which is set is set. -/
theorem fold_ori {ι : Type} [DecidableEq ι] (f : ι → BitVec 1) (S : Finset ι) (i : ι) (hi : i ∈ S) (h : f i = 1#1) : Finset.fold IntOp.ori 0#1 f S = 1#1 := by
  rw [← Finset.insert_erase hi, Finset.fold_insert (Finset.notMem_erase i S), h]
  generalize Finset.fold IntOp.ori 0#1 f (S.erase i) = c
  revert c; decide

/-- Every row may read a key, the first. -/
theorem rAny_at (r : Fin 2048) : rAny (ix1 r) = 1#1 := by
  have e : rAny (ix1 r) = Finset.fold IntOp.ori 0#1 (fun n : Fin 32768 => rMask (ix2 r n)) Finset.univ := by pointwise [rAny]
  rw [e]
  refine fold_ori _ _ (0 : Fin 32768) (Finset.mem_univ _) ?_
  rw [rMask_at, if_pos (.inr (.inl (by decide)))]

/-! ## The softmax -/

variable (x : FVec Ideal S2048x1024 .bf16) (wq : FVec Ideal S1024x1024 .bf16) (k : FVec Ideal S32768x8x128 .bf16) (v : FVec Ideal S32768x8x128 .bf16) (wo : FVec Ideal S1024x1024 .bf16)

/-- A query's component in a head. -/
def rq (r : Fin 2048) (h : Fin 8) (e : Fin 128) : EReal :=
  ∑ i : Fin 1024, x (ix2 r i) * wq (ix2 i ⟨h.val * 128 + e.val, by omega⟩)
/-- A query row's score of a key in a head, `⊥` where it may not read it. -/
def rs (h : Fin 8) (r : Fin 2048) (n : Fin 32768) : EReal :=
  if keep r.val n.val then (∑ e : Fin 128, rq x wq r h e * k (ix3 n h e)) * Ideal.ofBits .f32 0x3DB504F3#32 else ⊥

theorem sel_pos {α : Type} (a b : α) : Scalar.select 1#1 a b = a := rfl

theorem rScore_at (h : Fin 8) (r : Fin 2048) (n : Fin 32768) : rScore x wq k (ix3 h r n) = rs x wq k h r n := by
  pointwise [rScore]
  rw [rMask_at]
  unfold rs
  have e : (id (constant (F := Ideal) S_ .f32 0xFF800000#32) ix0 : EReal) = ⊥ := by
    show Ideal.ofBits .f32 0xFF800000#32 = ⊥
    simp [Ideal.ofBits, Ideal.ieee]
  by_cases hk : keep r.val n.val
  · rw [if_pos hk, if_pos hk]; rfl
  · rw [if_neg hk, if_neg hk]; exact e

/-- The exponential of a score below its row's maximum. -/
def rx (h : Fin 8) (r : Fin 2048) (n : Fin 32768) : EReal := Ideal.exp (rs x wq k h r n - Finset.univ.sup fun j => rs x wq k h r j)

theorem rExp_at (h : Fin 8) (r : Fin 2048) (n : Fin 32768) : rExp x wq k (ix3 h r n) = rx x wq k h r n := by
  pointwise [rExp]
  simp only [rScore_at]
  unfold rx
  rw [show Ideal.ofBits .f32 0xFF800000#32 = (⊥ : EReal) by simp [Ideal.ofBits, Ideal.ieee]]
  rfl

end Cert.ReferenceIdeal.Attn

end
-- ==== Proof.RefVal.lean ====
/- The reference's last stages read at an index: the softmax's weights, the values weighted by them, the output projection. -/
module

public import proofs.«01_k».proof.Proof.RefScore
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe

variable (x : FVec Ideal S2048x1024 .bf16) (wq : FVec Ideal S1024x1024 .bf16) (k : FVec Ideal S32768x8x128 .bf16) (v : FVec Ideal S32768x8x128 .bf16) (wo : FVec Ideal S1024x1024 .bf16)

/-- A row's sum. -/
def rt (h : Fin 8) (r : Fin 2048) : EReal := ∑ n : Fin 32768, rx x wq k h r n

theorem rSum_at (h : Fin 8) (r : Fin 2048) (z : Fin 1) : rSum x wq k (ix3 h r z) = rt x wq k h r := by
  have e : rSum x wq k (ix3 h r z) = Scalar.select (rAny (ix1 r)) (∑ n : Fin 32768, rExp x wq k (ix3 h r n)) (id (constant (F := Ideal) S_ .f32 0x3F800000#32) ix0) := by
    pointwise [rSum]
  rw [e, rAny_at, sel_pos]
  simp only [rExp_at]
  rw [rt]

/-- The weights' formula, at an index. -/
theorem prob_at (A : IVec S2048 1) (E : FVec Ideal S8x2048x32768 .f32) (T : FVec Ideal S8x2048x1 .f32) (h : Fin 8) (r : Fin 2048) (n : Fin 32768) :
    select (broadcastInDim S8x2048x32768 ![0, 1, 2] bcast_S1x2048x1_S8x2048x32768_0_1_2 (broadcastInDim S1x2048x1 ![1] bcast_S2048_S1x2048x1_1 A))
      (Host.divf E (broadcastInDim S8x2048x32768 ![0, 1, 2] bcast_S8x2048x1_S8x2048x32768_0_1_2 T))
      (broadcastInDim S8x2048x32768 ![] bcast_S_S8x2048x32768 (id (constant S_ .f32 0x00000000#32))) (ix3 h r n)
      = Scalar.select (A (ix1 r)) (Ideal.div (E (ix3 h r n)) (T (ix3 h r 0))) (id (constant (F := Ideal) S_ .f32 0#32) ix0) := by
  pointwise

theorem rProb_at (h : Fin 8) (r : Fin 2048) (n : Fin 32768) : rProb x wq k (ix3 h r n) = Ideal.div (rx x wq k h r n) (rt x wq k h r) := by
  rw [rProb, prob_at, rAny_at, sel_pos, rExp_at, rSum_at]

/-! ## The contexts, the output -/

/-- The reference's rearrangement of the contexts, at an index. -/
theorem tr_at (Y : FVec Ideal S8x128x2048 .f32) (r : Fin 2048) (c : Fin 1024) :
    shapeCast S2048x1024 (transpose S2048x8x128 [2, 0, 1] Y transposes_S8x128x2048_S2048x8x128_2_0_1) shapeCasts_S2048x8x128_S2048x1024 (ix2 r c)
      = Y (ix3 ⟨c.val / 128, by omega⟩ ⟨c.val % 128, Nat.mod_lt _ (by decide)⟩ r) := by
  pointwise
/-- The values' product with the weights, at an index. -/
theorem dot_at (w : FVec Ideal S32768x8x128 .f32) (p : FVec Ideal S8x2048x32768 .f32) (h : Fin 8) (e : Fin 128) (r : Fin 2048) :
    (Host.dotGeneral dot_S32768x8x128_S8x2048x32768_S8x128x2048_0_2_2_1_1_0 none w p : FVec Ideal S8x128x2048 .f32) (ix3 h e r)
      = ∑ n : Fin 32768, w (ix3 n h e) * p (ix3 h r n) := by
  pointwise

/-- A context. -/
def rc (r : Fin 2048) (h : Fin 8) (e : Fin 128) : EReal :=
  ∑ n : Fin 32768, v (ix3 n h e) * Ideal.div (rx x wq k h r n) (rt x wq k h r)

theorem rCtx_at (r : Fin 2048) (c : Fin 1024) :
    rCtx x wq k v (ix2 r c) = rc x wq k v r ⟨c.val / 128, by omega⟩ ⟨c.val % 128, Nat.mod_lt _ (by decide)⟩ := by
  unfold rCtx
  rw [tr_at, dot_at, rc]
  exact Finset.sum_congr rfl fun n _ => congrArg (fun y : EReal => v (ix3 n _ _) * y) (rProb_at x wq k _ r n)

/-- The reference's output, at an index. -/
theorem rOut_at (r : Fin 2048) (c : Fin 1024) :
    rOut x wq k v wo (ix2 r c) = ∑ i : Fin 1024, rc x wq k v r ⟨i.val / 128, by omega⟩ ⟨i.val % 128, Nat.mod_lt _ (by decide)⟩ * wo (ix2 i c) := by
  pointwise [rOut]
  simp only [rCtx_at]

end Cert.ReferenceIdeal.Attn

end
-- ==== Proof.Join.lean ====
/- The kernel's output and the reference's are one array: the keys renumbered, the division moved into the weighted sum. -/
module

public import proofs.«01_k».proof.Proof.Invar
public import proofs.«01_k».proof.Proof.RefVal
public import Idealize.ShloMosaic.Lib.LayoutAt

@[expose] public section

set_option maxRecDepth 16384

noncomputable section

namespace Cert.Join

open Idealize.ShloMosaic
open Cert.Softmax Cert.Mask
open Cert.KernelIdeal.Gen.Attn

/-! ## Reals among the extended reals -/

/-- An extended real that is a real. -/
def IsR (a : EReal) : Prop := ∃ r : ℝ, a = (r : EReal)

theorem IsR.ne_top {a : EReal} (h : IsR a) : a ≠ ⊤ := by obtain ⟨r, rfl⟩ := h; exact EReal.coe_ne_top r
theorem IsR.ne_bot {a : EReal} (h : IsR a) : a ≠ ⊥ := by obtain ⟨r, rfl⟩ := h; exact EReal.coe_ne_bot r
theorem IsR.mul {a b : EReal} (h : IsR a) (h' : IsR b) : IsR (a * b) := by
  obtain ⟨r, rfl⟩ := h; obtain ⟨s, rfl⟩ := h'; exact ⟨r * s, (EReal.coe_mul r s).symm⟩
theorem IsR.sum {ι : Type} (S : Finset ι) {f : ι → EReal} (h : ∀ i, IsR (f i)) : IsR (∑ i ∈ S, f i) := by
  classical
  induction S using Finset.induction_on with
  | empty => exact ⟨0, by simp⟩
  | insert a S ha ih =>
    obtain ⟨r, hr⟩ := h a; obtain ⟨s, hs⟩ := ih
    exact ⟨r + s, by rw [Finset.sum_insert ha, hr, hs, EReal.coe_add]⟩
/-- An extended real of an absolute value below `⊤` is a real. -/
theorem IsR.of_abs {a : EReal} (h : max a (-a) < ⊤) : IsR a := by
  induction a with
  | bot => simp at h
  | top => simp at h
  | coe r => exact ⟨r, rfl⟩

theorem SC_real : IsR SC := by
  unfold SC
  simp [Ideal.ofBits, Ideal.ieee]
  exact ⟨_, rfl⟩

/-! ## The keys' numbers -/

/-- A key's place among all the devices' keys. -/
def num (p : Key) : Fin 32768 := ⟨2048 * p.1.val + p.2.val, by have h : p.1.val < 16 := p.1.isLt; omega⟩

/-- Keys and their places. -/
def key : Key ≃ Fin 32768 where
  toFun := num
  invFun n := (⟨n.val / 2048, by show _ < 16; omega⟩, ⟨n.val % 2048, Nat.mod_lt _ (by decide)⟩)
  left_inv p := by
    refine Prod.ext (Fin.ext ?_) (Fin.ext ?_)
    · show (2048 * p.1.val + p.2.val) / 2048 = p.1.val; omega
    · show (2048 * p.1.val + p.2.val) % 2048 = p.2.val; omega
  right_inv n := Fin.ext (by show 2048 * (n.val / 2048) + n.val % 2048 = n.val; omega)

/-- A maximum over the places is the maximum over the keys. -/
theorem sup_key (f : Fin 32768 → EReal) : Finset.univ.sup f = Finset.univ.sup fun p : Key => f (num p) := by
  refine le_antisymm (Finset.sup_le fun n _ => ?_) (Finset.sup_le fun p _ => Finset.le_sup (f := f) (Finset.mem_univ _))
  have := Finset.le_sup (f := fun p : Key => f (num p)) (Finset.mem_univ (key.symm n))
  rwa [show num (key.symm n) = n from key.apply_symm_apply n] at this

/-- A sum over the places is the sum over the keys. -/
theorem sum_key (f : Fin 32768 → EReal) : ∑ n, f n = ∑ p : Key, f (num p) := (key.sum_comp f).symm

/-! ## The two programs' values -/

section Agree
open Cert.ReferenceIdeal.Attn

variable (I : Ins Ideal) (x : FVec Ideal Cert.ReferenceIdeal.S2048x1024 .bf16) (wq : FVec Ideal Cert.ReferenceIdeal.S1024x1024 .bf16)
  (k v : FVec Ideal Cert.ReferenceIdeal.S32768x8x128 .bf16) (wo : FVec Ideal Cert.ReferenceIdeal.S1024x1024 .bf16)

/-- The devices hold the reference's arrays: copies, or their own keys and values. -/
structure Agree : Prop where
  x : ∀ d r c, xAt I d r c = x (ix2 r c)
  wq : ∀ d r c, wqAt I d r c = wq (ix2 r c)
  k : ∀ d j h e, kAt I d j h e = k (ix3 (num (d, j)) h e)
  v : ∀ d j h e, vAt I d j h e = v (ix3 (num (d, j)) h e)
  wo : ∀ d r c, woAt I d r c = wo (ix2 r c)

/-- The activations, the query weights and the keys are reals. -/
structure Reals : Prop where
  x : ∀ d r c, IsR (xAt I d r c)
  wq : ∀ d r c, IsR (wqAt I d r c)
  k : ∀ d j h e, IsR (kAt I d j h e)

variable {I x wq k v wo}

theorem score_real (hf : Reals I) (r : Fin 2048) (h : Fin 8) (p : Key) :
    IsR ((∑ e : Fin 128, qAt I p.1 r (cO h e) * kAt I p.1 p.2 h e) * SC) :=
  (IsR.sum _ fun e => (IsR.sum _ fun i => (hf.x p.1 r i).mul (hf.wq p.1 i _)).mul (hf.k p.1 p.2 h e)).mul SC_real

/-- No score is `⊤`; -/
theorem sco_ne_top (hf : Reals I) (r : Fin 2048) (h : Fin 8) (p : Key) : sco I r h p ≠ ⊤ := by
  unfold sco
  split
  · exact (score_real hf r h p).ne_top
  · exact bot_ne_top

/-- and the first key's is a real, for every query row may read it. -/
theorem sco_first (hf : Reals I) (r : Fin 2048) (h : Fin 8) : sco I r h ((⟨0, by decide⟩ : Fin 16), (⟨0, by decide⟩ : Fin 2048)) ≠ ⊥ := by
  unfold sco
  rw [if_pos (show keep r.val (2048 * 0 + 0) from .inr (.inl rfl))]
  exact (score_real hf r h _).ne_bot

theorem score_eq (ha : Agree I x wq k v wo) (r : Fin 2048) (h : Fin 8) (p : Key) : rs x wq k h r (num p) = sco I r h p := by
  have e : ∀ e : Fin 128, rq x wq r h e * k (ix3 (num p) h e) = qAt I p.1 r (cO h e) * kAt I p.1 p.2 h e := fun e => by
    rw [ha.k p.1 p.2 h e]
    refine congrArg (fun y : EReal => y * k (ix3 (num p) h e)) (Finset.sum_congr rfl fun i _ => ?_)
    rw [ha.x p.1 r i, ha.wq p.1 i (cO h e)]
    have : (⟨h.val * 128 + e.val, by omega⟩ : Fin 1024) = cO h e := Fin.ext (by show h.val * 128 + e.val = 128 * h.val + e.val; omega)
    rw [this]
  unfold rs sco
  rw [Finset.sum_congr rfl fun i _ => e i]
  rfl

/-- The contexts agree. -/
theorem context_eq (ha : Agree I x wq k v wo) (hf : Reals I) (r : Fin 2048) (h : Fin 8) (e : Fin 128) : rc x wq k v r h e = ctxAt I r h e := by
  have hm : (Finset.univ.sup fun n => rs x wq k h r n) = mx (sco I r h) Finset.univ := by
    rw [sup_key]
    exact congrArg (Finset.univ.sup) (funext fun p => score_eq ha r h p)
  have hx : ∀ p, rx x wq k h r (num p) = Ideal.exp (sco I r h p - mx (sco I r h) Finset.univ) := fun p => by
    rw [rx, hm, score_eq ha]
  have ht : rt x wq k h r = sm (sco I r h) Finset.univ := by
    rw [rt, sum_key]
    exact Finset.sum_congr rfl fun p _ => hx p
  rw [ctxAt, ov_div (sco_ne_top hf r h) _ (Finset.mem_univ _) (sco_first hf r h), rc, sum_key]
  refine Finset.sum_congr rfl fun p _ => ?_
  rw [hx, ht, vlu, ha.v p.1 p.2 h e]

/-- The outputs agree, at an index; -/
theorem out_eq_at (ha : Agree I x wq k v wo) (hf : Reals I) (d : Dev Cert.KernelIdeal.nD) (r : Fin 2048) (c : Fin 1024) :
    outF I d (ValueIdx.ix2 r c) = rOut x wq k v wo (ValueIdx.ix2 r c) := by
  have e := rOut_at x wq k v wo r c
  rw [ix2_eq_valueIdx] at e
  refine (out_at (sco_ne_top hf) d r c).trans ((Finset.sum_congr (M := EReal) rfl fun i _ => ?_).trans e.symm)
  rw [context_eq ha hf, ha.wo d i c]

/-- hence the arrays do. -/
theorem out_eq (ha : Agree I x wq k v wo) (hf : Reals I) (d : Dev Cert.KernelIdeal.nD) : outF I d = rOut x wq k v wo :=
  funext fun j : (⟨2, ![2048, 1024]⟩ : Shape).Idx =>
    (congrArg (outF I d) (ValueIdx.eq_ix2 j)).trans ((out_eq_at ha hf d (j 0) (j 1)).trans (congrArg (rOut x wq k v wo) (ValueIdx.eq_ix2 j).symm))

end Agree

end Cert.Join

end
-- ==== Proof.Claims.lean ====
/- The value claim: from memories that agree and are finite where the precondition says, both programs end holding one array. -/
module

public import proofs.«01_k».proof.Proof.Join
public import proofs.«01_k».proof.Proof.Frames
public import proofs.«01_k».proof.Proof.Gen.ReferenceIdeal
public import Idealize.ShloMosaic.Lib.Pointwise

@[expose] public section

set_option maxRecDepth 16384

noncomputable section

namespace Cert.Join

open Idealize.ShloMosaic Idealize.SL.Sem
open Cert.KernelIdeal.Gen.Attn

/-- The shape relations the precondition states, of the devices' blocks. -/
theorem pre_facts : Cert.Pre_finite_KernelIdeal.Facts := ⟨by decide, by decide, by decide⟩
/-- The same of the whole arrays. -/
theorem pre_facts_whole : Cert.Pre_finite_ReferenceIdeal.Facts := ⟨by decide, by decide, by decide⟩

theorem inf_eq : Ideal.ofBits .bf16 0x7F80#16 = (⊤ : EReal) := by simp [Ideal.ofBits, Ideal.ieee]

/-- Where the comparison with infinity is true the entry is a real. -/
theorem real_of_cmp {a : EReal} (h : Ideal.cmp .olt (max a (-a)) (Ideal.ofBits .bf16 0x7F80#16) = 1#1) : IsR a := by
  rw [inf_eq] at h
  refine IsR.of_abs ?_
  by_contra hn
  simp [Ideal.cmp, hn] at h

attribute [local instance] pre_facts

section Pre
variable (x : FVec Ideal ⟨2, ![2048, 1024]⟩ .bf16) (wq : FVec Ideal ⟨2, ![1024, 1024]⟩ .bf16) (k v : FVec Ideal ⟨3, ![2048, 8, 128]⟩ .bf16) (wo : FVec Ideal ⟨2, ![1024, 1024]⟩ .bf16)

/-- The precondition's words, at an index: the activations', -/
theorem pre_x (r : Fin 2048) (c : Fin 1024) :
    (Cert.Pre_finite_KernelIdeal.fn (F := Ideal) x wq k v wo).1 (ix2 r c) = Ideal.cmp .olt (max (x (ix2 r c) : EReal) (-(x (ix2 r c) : EReal))) (Ideal.ofBits .bf16 0x7F80#16) := by
  pointwise [Cert.Pre_finite_KernelIdeal.fn]
  rfl
/-- the query weights', -/
theorem pre_wq (r c : Fin 1024) :
    (Cert.Pre_finite_KernelIdeal.fn (F := Ideal) x wq k v wo).2.1 (ix2 r c) = Ideal.cmp .olt (max (wq (ix2 r c) : EReal) (-(wq (ix2 r c) : EReal))) (Ideal.ofBits .bf16 0x7F80#16) := by
  pointwise [Cert.Pre_finite_KernelIdeal.fn]
  rfl
/-- the keys'. -/
theorem pre_k (j : Fin 2048) (h : Fin 8) (e : Fin 128) :
    (Cert.Pre_finite_KernelIdeal.fn (F := Ideal) x wq k v wo).2.2 (ix3 j h e) = Ideal.cmp .olt (max (k (ix3 j h e) : EReal) (-(k (ix3 j h e) : EReal))) (Ideal.ofBits .bf16 0x7F80#16) := by
  pointwise [Cert.Pre_finite_KernelIdeal.fn]
  rfl
end Pre

variable (m : (ℓ : Loc Cert.KernelIdeal.nD Cert.KernelIdeal.τ Cert.KernelIdeal.sig) → Buf (Elt Ideal) ℓ)

/-- The precondition makes the entries reals. -/
theorem reals (h : Cert.Pre_KernelIdeal_finite_KernelIdeal m) : Reals (argsOf m) where
  x d r c := real_of_cmp ((pre_x _ _ _ _ _ r c).symm.trans (congrFun (h d).1 (ix2 r c)))
  wq d r c := real_of_cmp ((pre_wq _ _ _ _ _ r c).symm.trans (congrFun (h d).2.1 (ix2 r c)))
  k d j g e := real_of_cmp ((pre_k _ _ _ _ _ j g e).symm.trans (congrFun (h d).2.2 (ix3 j g e)))

/-- A device's block of the keys or of the values, at an index. -/
theorem block_at (w : (⟨3, ![32768, 8, 128]⟩ : Shape).Idx → EReal) (d : Fin 16) (t : Layout.Tiles ⟨3, ![2048, 8, 128]⟩ ⟨3, ![32768, 8, 128]⟩ 0 16)
    (j : Fin 2048) (h : Fin 8) (e : Fin 128) :
    Layout.block ⟨3, ![2048, 8, 128]⟩ ⟨3, ![32768, 8, 128]⟩ 0 16 d w t (ValueIdx.ix3 j h e) = w (ix3 (num (d, j)) h e) := by
  rw [Layout.block_apply, ix3_eq_valueIdx]
  refine congrArg w (funext fun b => Fin.ext ?_)
  rw [Layout.Tiles.idx_val]
  fin_cases b
  · show d.val * 2048 + j.val = 2048 * d.val + j.val; omega
  · rfl
  · rfl

/-- The value claim. -/
theorem value_claim : Cert.algebraic_KernelIdeal_ReferenceIdeal_pre_finite_KernelIdeal := by
  intro m g m' g' hp ha
  have hA : Agree (argsOf m) _ _ _ _ _ :=
    { x := fun d r c => by rw [ix2_eq_valueIdx]; exact congrFun (ha d).1 (ValueIdx.ix2 r c)
      wq := fun d r c => by rw [ix2_eq_valueIdx]; exact congrFun (ha d).2.1 (ValueIdx.ix2 r c)
      k := fun d j h e => (congrFun (ha d).2.2.1 (ValueIdx.ix3 j h e)).trans (block_at _ d _ j h e)
      v := fun d j h e => (congrFun (ha d).2.2.2.1 (ValueIdx.ix3 j h e)).trans (block_at _ d _ j h e)
      wo := fun d r c => by rw [ix2_eq_valueIdx]; exact congrFun (ha d).2.2.2.2 (ValueIdx.ix2 r c) }
  refine ⟨_, (θ_run Cert.KernelIdeal.defs _ _).mono (fun r h c => ⟨(h.1 c).1.trans (out_eq hA (reals m hp) c), (h.1 c).2⟩) (run_values (F := Ideal) m g),
    (θ_run Cert.ReferenceIdeal.defs _ _).mono (fun r h => ⟨(h 0).1.trans (Cert.ReferenceIdeal.Attn.res_eq m' 0), (h 0).2⟩) (Cert.ReferenceIdeal.Value.run m' g')⟩

end Cert.Join

end
-- ==== Proof.lean ====
/- The proof of the claims: the frames from the run of the kernel at each instance, the rewrite from its
   rule, the value claim from the two programs' outputs. -/
module

public import proofs.«01_k».proof.Defs
public import proofs.«01_k».proof.Proof.Gen.ReferenceIdeal
public import proofs.«01_k».proof.Proof.Gen.ReferenceIdeal.Run
public import proofs.«01_k».proof.Proof.Frames
public import proofs.«01_k».proof.Proof.Claims

@[expose] public section

noncomputable section

namespace Cert.Proof

open Idealize.ShloMosaic Idealize.SL.Sem

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Every claim. -/
theorem claim : Cert.Claim := ⟨Cert.Kernel.Gen.facts, Cert.KernelIdeal.Gen.facts, Cert.ReferenceIdeal.Gen.facts,
  Cert.Join.pre_facts, Cert.Join.pre_facts_whole,
  Cert.KernelIdeal.Gen.Attn.frame_kernel, Cert.KernelIdeal.Gen.Attn.frame_ideal,
  fun m ρ _ => Cert.KernelIdeal.Gen.Attn.frame_ideal m ρ trivial, frame_reference, fun m ρ _ => frame_reference m ρ trivial,
  Cert.KernelIdeal.Gen.Attn.rewrite_ok, Cert.Join.value_claim⟩

end Cert.Proof

end
